-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_range_sorted [hPre_in_range_sorted : Cert.Pre_in_range_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_sorted [hPre_in_range_sorted : Cert.Pre_in_range_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_sorted [hKernelIdeal : Cert.KernelIdeal.Facts] [hPre_in_range_sorted : Cert.Pre_in_range_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_sorted [hReferenceIdeal : Cert.ReferenceIdeal.Facts] [hPre_in_range_sorted : Cert.Pre_in_range_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_sorted [hKernelIdeal : Cert.KernelIdeal.Facts] [hReferenceIdeal : Cert.ReferenceIdeal.Facts] [hPre_in_range_sorted : Cert.Pre_in_range_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_sorted : Cert.Pre_in_range_sorted.Facts),
    quiescent_Kernel (hKernel := hKernel) (hPre_in_range := hPre_in_range)
    ∧ quiescent_KernelIdeal (hKernelIdeal := hKernelIdeal) (hPre_in_range := hPre_in_range)
    ∧ quiescent_KernelIdeal_pre_in_range_sorted (hKernelIdeal := hKernelIdeal) (hPre_in_range_sorted := hPre_in_range_sorted)
    ∧ quiescent_ReferenceIdeal (hReferenceIdeal := hReferenceIdeal)
    ∧ quiescent_ReferenceIdeal_pre_in_range_sorted (hReferenceIdeal := hReferenceIdeal) (hPre_in_range_sorted := hPre_in_range_sorted)
    ∧ preserves_Kernel_KernelIdeal
    ∧ algebraic_KernelIdeal_ReferenceIdeal_pre_in_range_sorted (hKernelIdeal := hKernelIdeal) (hReferenceIdeal := hReferenceIdeal) (hPre_in_range_sorted := hPre_in_range_sorted)
-- ==== Pre_in_range.lean ====
abbrev S50000x256 : Shape := ⟨2, ![50000, 256]⟩
abbrev S50000 : Shape := ⟨1, ![50000]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x256 .f32) (main_arg1 : IVec S50000 32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 256#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  main_v5
-- ==== Pre_in_range_sorted.lean ====
abbrev S50000x256 : Shape := ⟨2, ![50000, 256]⟩
abbrev S50000 : Shape := ⟨1, ![50000]⟩
abbrev S_ : Shape := ⟨0, ![]⟩
abbrev S49999 : Shape := ⟨1, ![49999]⟩

class Facts : Prop where
  bcast_S_S50000 : S_.BroadcastsInDim S50000 (![] : Fin 0 → Fin S50000.rank)
  reducesTo_S50000_S_d0 : S50000.ReducesTo [0] S_
  h_S_ : 0 < S_.numel
  slices_S50000_S49999_0 : S50000.Slices ![0] S49999
  slices_S50000_S49999_1 : S50000.Slices ![1] S49999
  reducesTo_S49999_S_d0 : S49999.ReducesTo [0] S_

variable [Facts]

def fn {F : FTy → Type} [FloatOps F] (main_arg0 : FVec F S50000x256 .f32) (main_arg1 : IVec S50000 32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 256#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_v6 : IVec S49999 32 := (extractStridedSlice S49999 ![0] · slices_S50000_S49999_0) main_arg1
  let main_v7 : IVec S49999 32 := (extractStridedSlice S49999 ![1] · slices_S50000_S49999_1) main_arg1
  let main_v8 : IVec S49999 1 := cmpi .sle main_v6 main_v7
  let main_c_2 : IVec S_ 1 := constantI S_ 1 1#1
  let main_v9 : IVec S_ 1 := (fun x v => Host.reduce IntOp.andi x v reducesTo_S49999_S_d0 h_S_) main_v8 main_c_2
  let main_v10 : IVec S_ 1 := andi main_v5 main_v9
  main_v10
-- ==== Kernel.lean ====
abbrev S50000x256 : Shape := ⟨2, ![50000, 256]⟩
abbrev S50000 : Shape := ⟨1, ![50000]⟩
abbrev S288 : Shape := ⟨1, ![288]⟩
abbrev S3136 : Shape := ⟨1, ![3136]⟩
abbrev S_ : Shape := ⟨0, ![]⟩
abbrev S16 : Shape := ⟨1, ![16]⟩
abbrev S2960 : Shape := ⟨1, ![2960]⟩
abbrev S8192x256 : Shape := ⟨2, ![8192, 256]⟩
abbrev S8192 : Shape := ⟨1, ![8192]⟩
abbrev S8192x1 : Shape := ⟨2, ![8192, 1]⟩

abbrev nBuf : Table → Nat
  | .hbm => 4
  | .local .tc .vmem => 6
  | .local .scVector .vmem => 4
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S50000, .f32⟩
  | .hbm, ⟨3, _⟩ => ⟨S50000x256, .f32⟩
  | .local .tc .vmem, ⟨0, _⟩ => ⟨S8192x256, .f32⟩
  | .local .tc .vmem, ⟨1, _⟩ => ⟨S8192x256, .f32⟩
  | .local .tc .vmem, ⟨2, _⟩ => ⟨S8192, .f32⟩
  | .local .tc .vmem, ⟨3, _⟩ => ⟨S8192, .f32⟩
  | .local .tc .vmem, ⟨4, _⟩ => ⟨S8192x256, .f32⟩
  | .local .tc .vmem, ⟨5, _⟩ => ⟨S8192x256, .f32⟩
  | .local .scVector .vmem, ⟨0, _⟩ => ⟨S50000, .i32⟩
  | .local .scVector .vmem, ⟨1, _⟩ => ⟨S288, .i32⟩
  | .local .scVector .vmem, ⟨2, _⟩ => ⟨S288, .f32⟩
  | .local .scVector .vmem, ⟨3, _⟩ => ⟨S3136, .f32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c3136_i32 : BitVec 32 := 3136#32
  let v0 : BitVec 32 := Scalar.muli arg1 c3136_i32
  let v3 : Index := Scalar.indexCast v0
  ![v3.toNat]
def k0_off2 (i : grid0.Coords) : Fin 1 → Nat :=
  let arg1 : BitVec 32 := BitVec.ofNat 32 (i 1).val
  let c3136_i32 : BitVec 32 := 3136#32
  let v0 : BitVec 32 := Scalar.muli arg1 c3136_i32
  let c15_i32 : BitVec 32 := 15#32
  let v1 : BitVec 1 := Scalar.cmpi .slt arg1 c15_i32
  let c3136_i32_0 : BitVec 32 := 3136#32
  let c2960_i32 : BitVec 32 := 2960#32
  let v2 : BitVec 32 := Scalar.select v1 c3136_i32_0 c2960_i32
  let v11 : BitVec 32 := Scalar.addi v0 v2
  let c16_i32 : BitVec 32 := 16#32
  let v12 : BitVec 32 := Scalar.subi v11 c16_i32
  let v13 : Index := Scalar.indexCast v12
  ![v13.toNat]
@[reducible] def k0_t1_loop (v10 : BitVec 32) (v20 : BitVec 32) : Scf.Loop 32 :=
  let c4_i32 : BitVec 32 := 4#32
  let v21 : BitVec 32 := Scalar.shrui v10 c4_i32
  let c1_i32 : BitVec 32 := 1#32
  let v22 : BitVec 32 := Scalar.addi v20 c1_i32
  let c4_i32_3 : BitVec 32 := 4#32
  let v23 : BitVec 32 := Scalar.shrui v22 c4_i32_3
  let c2_i32 : BitVec 32 := 2#32
  let v24 : BitVec 32 := Scalar.addi v23 c2_i32
  let v25 : BitVec 32 := Scalar.subi v24 v21
  let c1_i32_4 : BitVec 32 := 1#32
  let v27 : BitVec 32 := Scalar.divsi v25 c1_i32_4
  let v28 : BitVec 32 := Scalar.muli v27 c1_i32_4
  let v29 : BitVec 32 := Scalar.addi v21 v28
  let c1_i32_5 : BitVec 32 := 1#32
  ⟨v21, v29, c1_i32_5⟩

@[reducible] def k0_t2_loop : Scf.Loop 32 :=
  let c0_i32_17 : BitVec 32 := 0#32
  let c16_i32_18 : BitVec 32 := 16#32
  let v48 : BitVec 32 := Scalar.addi c0_i32_17 c16_i32_18
  let c1_i32_19 : BitVec 32 := 1#32
  ⟨c0_i32_17, v48, c1_i32_19⟩

def k0_chk2 (v57 : IVec S16 32) : Prop :=
  (∀ a x, ((![v57] : Fin 1 → IVec S16 32) a x).toNat < S50000.size a)
theorem k0_idx1_inb : ∀ (v57 : IVec S16 32) (k0_hw2 : k0_chk2 v57), ∀ a x, ((![v57] : Fin 1 → IVec S16 32) a x).toNat < S50000.size a := fun v57 k0_hw2 => k0_hw2
def k0_off3 (v10 : BitVec 32) (v20 : BitVec 32) (k0_t1 : Fin (k0_t1_loop v10 v20).trips) : Fin 1 → Nat :=
  let c4_i32 : BitVec 32 := 4#32
  let v21 : BitVec 32 := Scalar.shrui v10 c4_i32
  let c1_i32_5 : BitVec 32 := 1#32
  let arg8 : BitVec 32 := Scf.iv v21 c1_i32_5 k0_t1
  let c16_i32_21 : BitVec 32 := 16#32
  let v50 : BitVec 32 := Scalar.muli arg8 c16_i32_21
  let v51 : Index := Scalar.indexCast v50
  ![v51.toNat]
@[reducible] def k0_t3_loop (v10 : BitVec 32) (v20 : BitVec 32) : Scf.Loop 32 :=
  let c4_i32 : BitVec 32 := 4#32
  let v21 : BitVec 32 := Scalar.shrui v10 c4_i32
  let c1_i32 : BitVec 32 := 1#32
  let v22 : BitVec 32 := Scalar.addi v20 c1_i32
  let c4_i32_3 : BitVec 32 := 4#32
  let v23 : BitVec 32 := Scalar.shrui v22 c4_i32_3
  let c2_i32 : BitVec 32 := 2#32
  let v24 : BitVec 32 := Scalar.addi v23 c2_i32
  let v25 : BitVec 32 := Scalar.subi v24 v21
  let c1_i32_4 : BitVec 32 := 1#32
  let v27 : BitVec 32 := Scalar.divsi v25 c1_i32_4
  let v28 : BitVec 32 := Scalar.muli v27 c1_i32_4
  let v29 : BitVec 32 := Scalar.addi v21 v28
  let v26 : BitVec 32 := Scalar.addi v21 v25
  let c1_i32_6 : BitVec 32 := 1#32
  ⟨v29, v26, c1_i32_6⟩
@[reducible] def k0_t4_loop : Scf.Loop 32 :=
  let c0_i32_17 : BitVec 32 := 0#32
  let c16_i32_18 : BitVec 32 := 16#32
  let v48 : BitVec 32 := Scalar.addi c0_i32_17 c16_i32_18
  let c1_i32_19 : BitVec 32 := 1#32
  ⟨c0_i32_17, v48, c1_i32_19⟩

def k0_chk3 (v57 : IVec S16 32) : Prop :=
  (∀ a x, ((![v57] : Fin 1 → IVec S16 32) a x).toNat < S50000.size a)
theorem k0_idx2_inb : ∀ (v57 : IVec S16 32) (k0_hw3 : k0_chk3 v57), ∀ a x, ((![v57] : Fin 1 → IVec S16 32) a x).toNat < S50000.size a := fun v57 k0_hw3 => k0_hw3
def k0_off4 (v10 : BitVec 32) (v20 : BitVec 32) (k0_t3 : Fin (k0_t3_loop v10 v20).trips) : Fin 1 → Nat :=
  let c4_i32 : BitVec 32 := 4#32
  let v21 : BitVec 32 := Scalar.shrui v10 c4_i32
  let c1_i32 : BitVec 32 := 1#32
  let v22 : BitVec 32 := Scalar.addi v20 c1_i32
  let c4_i32_3 : BitVec 32 := 4#32
  let v23 : BitVec 32 := Scalar.shrui v22 c4_i32_3
  let c2_i32 : BitVec 32 := 2#32
  let v24 : BitVec 32 := Scalar.addi v23 c2_i32
  let v25 : BitVec 32 := Scalar.subi v24 v21
  let c1_i32_4 : BitVec 32 := 1#32
  let v27 : BitVec 32 := Scalar.divsi v25 c1_i32_4
  let v28 : BitVec 32 := Scalar.muli v27 c1_i32_4
  let v29 : BitVec 32 := Scalar.addi v21 v28
  let c1_i32_6 : BitVec 32 := 1#32
  let arg8 : BitVec 32 := Scf.iv v29 c1_i32_6 k0_t3
  let c16_i32_21 : BitVec 32 := 16#32
  let v50 : BitVec 32 := Scalar.muli arg8 c16_i32_21
  let v51 : Index := Scalar.indexCast v50
  ![v51.toNat]
@[reducible] def k0_t5_loop (v10 : BitVec 32) (v20 : BitVec 32) : Scf.Loop 32 :=
  let c4_i32 : BitVec 32 := 4#32
  let v21 : BitVec 32 := Scalar.shrui v10 c4_i32
  let c1_i32 : BitVec 32 := 1#32
  let v22 : BitVec 32 := Scalar.addi v20 c1_i32
  let c4_i32_3 : BitVec 32 := 4#32
  let v23 : BitVec 32 := Scalar.shrui v22 c4_i32_3
  let c1_i32_7 : BitVec 32 := 1#32
  let v30 : BitVec 32 := Scalar.addi v23 c1_i32_7
  let v31 : BitVec 32 := Scalar.subi v30 v21
  let c1_i32_9 : BitVec 32 := 1#32
  let v33 : BitVec 32 := Scalar.divsi v31 c1_i32_9
  let v34 : BitVec 32 := Scalar.muli v33 c1_i32_9
  let v35 : BitVec 32 := Scalar.addi v21 v34
  let c1_i32_10 : BitVec 32 := 1#32
  ⟨v21, v35, c1_i32_10⟩
def k0_off5 (v10 : BitVec 32) (v20 : BitVec 32) (k0_t5 : Fin (k0_t5_loop v10 v20).trips) : Fin 1 → Nat :=
  let c4_i32 : BitVec 32 := 4#32
  let v21 : BitVec 32 := Scalar.shrui v10 c4_i32
  let c1_i32_10 : BitVec 32 := 1#32
  let arg8 : BitVec 32 := Scf.iv v21 c1_i32_10 k0_t5
  let c16_i32_16 : BitVec 32 := 16#32
  let v42 : BitVec 32 := Scalar.muli arg8 c16_i32_16
  let v43 : Index := Scalar.indexCast v42
  ![v43.toNat]
def k0_off6 (v10 : BitVec 32) (v20 : BitVec 32) (k0_t5 : Fin (k0_t5_loop v10 v20).trips) : Fin 1 → Nat :=
  let c4_i32 : BitVec 32 := 4#32
  let v21 : BitVec 32 := Scalar.shrui v10 c4_i32
  let c1_i32_10 : BitVec 32 := 1#32
  let arg8 : BitVec 32 := Scf.iv v21 c1_i32_10 k0_t5
  let c16_i32_17 : BitVec 32 := 16#32
  let v45 : BitVec 32 := Scalar.muli arg8 c16_i32_17
  let c1_i32_18 : BitVec 32 := 1#32
  let v46 : BitVec 32 := Scalar.addi v45 c1_i32_18
  let v47 : Index := Scalar.indexCast v46
  ![v47.toNat]
@[reducible] def k0_t6_loop (v10 : BitVec 32) (v20 : BitVec 32) : Scf.Loop 32 :=
  let c4_i32 : BitVec 32 := 4#32
  let v21 : BitVec 32 := Scalar.shrui v10 c4_i32
  let c1_i32 : BitVec 32 := 1#32
  let v22 : BitVec 32 := Scalar.addi v20 c1_i32
  let c4_i32_3 : BitVec 32 := 4#32
  let v23 : BitVec 32 := Scalar.shrui v22 c4_i32_3
  let c1_i32_7 : BitVec 32 := 1#32
  let v30 : BitVec 32 := Scalar.addi v23 c1_i32_7
  let v31 : BitVec 32 := Scalar.subi v30 v21
  let c1_i32_9 : BitVec 32 := 1#32
  let v33 : BitVec 32 := Scalar.divsi v31 c1_i32_9
  let v34 : BitVec 32 := Scalar.muli v33 c1_i32_9
  let v35 : BitVec 32 := Scalar.addi v21 v34
  let v32 : BitVec 32 := Scalar.addi v21 v31
  let c1_i32_11 : BitVec 32 := 1#32
  ⟨v35, v32, c1_i32_11⟩
def k0_off7 (v10 : BitVec 32) (v20 : BitVec 32) (k0_t6 : Fin (k0_t6_loop v10 v20).trips) : Fin 1 → Nat :=
  let c4_i32 : BitVec 32 := 4#32
  let v21 : BitVec 32 := Scalar.shrui v10 c4_i32
  let c1_i32 : BitVec 32 := 1#32
  let v22 : BitVec 32 := Scalar.addi v20 c1_i32
  let c4_i32_3 : BitVec 32 := 4#32
  let v23 : BitVec 32 := Scalar.shrui v22 c4_i32_3
  let c1_i32_7 : BitVec 32 := 1#32
  let v30 : BitVec 32 := Scalar.addi v23 c1_i32_7
  let v31 : BitVec 32 := Scalar.subi v30 v21
  let c1_i32_9 : BitVec 32 := 1#32
  let v33 : BitVec 32 := Scalar.divsi v31 c1_i32_9
  let v34 : BitVec 32 := Scalar.muli v33 c1_i32_9
  let v35 : BitVec 32 := Scalar.addi v21 v34
  let c1_i32_11 : BitVec 32 := 1#32
  let arg8 : BitVec 32 := Scf.iv v35 c1_i32_11 k0_t6
  let c16_i32_16 : BitVec 32 := 16#32
  let v42 : BitVec 32 := Scalar.muli arg8 c16_i32_16
  let v43 : Index := Scalar.indexCast v42
  ![v43.toNat]
def k0_off8 (v10 : BitVec 32) (v20 : BitVec 32) (k0_t6 : Fin (k0_t6_loop v10 v20).trips) : Fin 1 → Nat :=
  let c4_i32 : BitVec 32 := 4#32
  let v21 : BitVec 32 := Scalar.shrui v10 c4_i32
  let c1_i32 : BitVec 32 := 1#32
  let v22 : BitVec 32 := Scalar.addi v20 c1_i32
  let c4_i32_3 : BitVec 32 := 4#32
  let v23 : BitVec 32 := Scalar.shrui v22 c4_i32_3
  let c1_i32_7 : BitVec 32 := 1#32
  let v30 : BitVec 32 := Scalar.addi v23 c1_i32_7
  let v31 : BitVec 32 := Scalar.subi v30 v21
  let c1_i32_9 : BitVec 32 := 1#32
  let v33 : BitVec 32 := Scalar.divsi v31 c1_i32_9
  let v34 : BitVec 32 := Scalar.muli v33 c1_i32_9
  let v35 : BitVec 32 := Scalar.addi v21 v34
  let c1_i32_11 : BitVec 32 := 1#32
  let arg8 : BitVec 32 := Scf.iv v35 c1_i32_11 k0_t6
  let c16_i32_17 : BitVec 32 := 16#32
  let v45 : BitVec 32 := Scalar.muli arg8 c16_i32_17
  let c1_i32_18 : BitVec 32 := 1#32
  let v46 : BitVec 32 := Scalar.addi v45 c1_i32_18
  let v47 : Index := Scalar.indexCast v46
  ![v47.toNat]

def k0_chk1 (v10 : BitVec 32) (v20 : BitVec 32) : Prop :=
  ((k0_t1_loop v10 v20).OK) ∧
  (∀ k0_t1 : Fin (k0_t1_loop v10 v20).trips, ∀ a, (k0_off3 v10 v20 k0_t1) a + S16.size a ≤ S288.size a) ∧
  ((k0_t3_loop v10 v20).OK) ∧
  (∀ k0_t3 : Fin (k0_t3_loop v10 v20).trips, ∀ a, (k0_off4 v10 v20 k0_t3) a + S16.size a ≤ S288.size a) ∧
  ((k0_t5_loop v10 v20).OK) ∧
  (∀ k0_t5 : Fin (k0_t5_loop v10 v20).trips, ∀ a, (k0_off5 v10 v20 k0_t5) a + S16.size a ≤ S288.size a) ∧
  (∀ k0_t5 : Fin (k0_t5_loop v10 v20).trips, ∀ a, (k0_off6 v10 v20 k0_t5) a + S16.size a ≤ S288.size a) ∧
  ((k0_t6_loop v10 v20).OK) ∧
  (∀ k0_t6 : Fin (k0_t6_loop v10 v20).trips, ∀ a, (k0_off7 v10 v20 k0_t6) a + S16.size a ≤ S288.size a) ∧
  (∀ k0_t6 : Fin (k0_t6_loop v10 v20).trips, ∀ a, (k0_off8 v10 v20 k0_t6) a + S16.size a ≤ S288.size a)
theorem k0_t1_ok : ∀ (v10 : BitVec 32) (v20 : BitVec 32) (k0_hw1 : k0_chk1 v10 v20), (k0_t1_loop v10 v20).OK := fun v10 v20 k0_hw1 => k0_hw1.1
theorem k0_off3_inb : ∀ (v10 : BitVec 32) (v20 : BitVec 32) (k0_hw1 : k0_chk1 v10 v20) (k0_t1 : Fin (k0_t1_loop v10 v20).trips), ∀ a, (k0_off3 v10 v20 k0_t1) a + S16.size a ≤ S288.size a := fun v10 v20 k0_hw1 k0_t1 => k0_hw1.2.1 k0_t1
theorem k0_t3_ok : ∀ (v10 : BitVec 32) (v20 : BitVec 32) (k0_hw1 : k0_chk1 v10 v20), (k0_t3_loop v10 v20).OK := fun v10 v20 k0_hw1 => k0_hw1.2.2.1
theorem k0_off4_inb : ∀ (v10 : BitVec 32) (v20 : BitVec 32) (k0_hw1 : k0_chk1 v10 v20) (k0_t3 : Fin (k0_t3_loop v10 v20).trips), ∀ a, (k0_off4 v10 v20 k0_t3) a + S16.size a ≤ S288.size a := fun v10 v20 k0_hw1 k0_t3 => k0_hw1.2.2.2.1 k0_t3
theorem k0_t5_ok : ∀ (v10 : BitVec 32) (v20 : BitVec 32) (k0_hw1 : k0_chk1 v10 v20), (k0_t5_loop v10 v20).OK := fun v10 v20 k0_hw1 => k0_hw1.2.2.2.2.1
theorem k0_off5_inb : ∀ (v10 : BitVec 32) (v20 : BitVec 32) (k0_hw1 : k0_chk1 v10 v20) (k0_t5 : Fin (k0_t5_loop v10 v20).trips), ∀ a, (k0_off5 v10 v20 k0_t5) a + S16.size a ≤ S288.size a := fun v10 v20 k0_hw1 k0_t5 => k0_hw1.2.2.2.2.2.1 k0_t5
theorem k0_off6_inb : ∀ (v10 : BitVec 32) (v20 : BitVec 32) (k0_hw1 : k0_chk1 v10 v20) (k0_t5 : Fin (k0_t5_loop v10 v20).trips), ∀ a, (k0_off6 v10 v20 k0_t5) a + S16.size a ≤ S288.size a := fun v10 v20 k0_hw1 k0_t5 => k0_hw1.2.2.2.2.2.2.1 k0_t5
theorem k0_t6_ok : ∀ (v10 : BitVec 32) (v20 : BitVec 32) (k0_hw1 : k0_chk1 v10 v20), (k0_t6_loop v10 v20).OK := fun v10 v20 k0_hw1 => k0_hw1.2.2.2.2.2.2.2.1
theorem k0_off7_inb : ∀ (v10 : BitVec 32) (v20 : BitVec 32) (k0_hw1 : k0_chk1 v10 v20) (k0_t6 : Fin (k0_t6_loop v10 v20).trips), ∀ a, (k0_off7 v10 v20 k0_t6) a + S16.size a ≤ S288.size a := fun v10 v20 k0_hw1 k0_t6 => k0_hw1.2.2.2.2.2.2.2.2.1 k0_t6
theorem k0_off8_inb : ∀ (v10 : BitVec 32) (v20 : BitVec 32) (k0_hw1 : k0_chk1 v10 v20) (k0_t6 : Fin (k0_t6_loop v10 v20).trips), ∀ a, (k0_off8 v10 v20 k0_t6) a + S16.size a ≤ S288.size a := fun v10 v20 k0_hw1 k0_t6 => k0_hw1.2.2.2.2.2.2.2.2.2 k0_t6

def k0_cond1 (i : grid0.Coords) : BitVec 1 :=
  let arg1 : BitVec 32 := BitVec.ofNat 32 (i 1).val
  let c15_i32_12 : BitVec 32 := 15#32
  let v36 : BitVec 1 := Scalar.cmpi .slt arg1 c15_i32_12
  let v37 : BitVec 32 := Scalar.extui v36
  let c0_i32_13 : BitVec 32 := 0#32
  let v38 : BitVec 1 := Scalar.cmpi .ne v37 c0_i32_13
  v38

@[reducible] def k0_t7_loop : Scf.Loop 32 :=
  let c0_i32_17 : BitVec 32 := 0#32
  let c49_i32 : BitVec 32 := 49#32
  let v42 : BitVec 32 := Scalar.addi c0_i32_17 c49_i32
  let c1_i32_18 : BitVec 32 := 1#32
  ⟨c0_i32_17, v42, c1_i32_18⟩
def k0_off9 (i : grid0.Coords) (k0_t7 : Fin k0_t7_loop.trips) : Fin 1 → Nat :=
  let arg1 : BitVec 32 := BitVec.ofNat 32 (i 1).val
  let c3136_i32 : BitVec 32 := 3136#32
  let v0 : BitVec 32 := Scalar.muli arg1 c3136_i32
  let c0_i32_17 : BitVec 32 := 0#32
  let c1_i32_18 : BitVec 32 := 1#32
  let arg8 : BitVec 32 := Scf.iv c0_i32_17 c1_i32_18 k0_t7
  let c4_i32_21 : BitVec 32 := 4#32
  let v44 : BitVec 32 := Scalar.muli arg8 c4_i32_21
  let c0_i32_22 : BitVec 32 := 0#32
  let v45 : BitVec 32 := Scalar.addi v44 c0_i32_22
  let c16_i32_23 : BitVec 32 := 16#32
  let v46 : BitVec 32 := Scalar.muli v45 c16_i32_23
  let v47 : BitVec 32 := Scalar.addi v0 v46
  let v48 : Index := Scalar.indexCast v47
  ![v48.toNat]

def k0_chk4 (i : grid0.Coords) (v49 : IVec S16 32) : Prop :=
  (∀ (k0_h1 : k0_cond1 i = 1#1), ∀ a x, ((![v49] : Fin 1 → IVec S16 32) a x).toNat < S288.size a)
theorem k0_idx3_inb : ∀ (i : grid0.Coords) (v49 : IVec S16 32) (k0_hw4 : k0_chk4 i v49), ∀ (k0_h1 : k0_cond1 i = 1#1), ∀ a x, ((![v49] : Fin 1 → IVec S16 32) a x).toNat < S288.size a := fun i v49 k0_hw4 k0_h1 => k0_hw4 k0_h1
def k0_off10 (k0_t7 : Fin k0_t7_loop.trips) : Fin 1 → Nat :=
  let c0_i32_17 : BitVec 32 := 0#32
  let c1_i32_18 : BitVec 32 := 1#32
  let arg8 : BitVec 32 := Scf.iv c0_i32_17 c1_i32_18 k0_t7
  let c4_i32_21 : BitVec 32 := 4#32
  let v44 : BitVec 32 := Scalar.muli arg8 c4_i32_21
  let c0_i32_22 : BitVec 32 := 0#32
  let v45 : BitVec 32 := Scalar.addi v44 c0_i32_22
  let c16_i32_23 : BitVec 32 := 16#32
  let v46 : BitVec 32 := Scalar.muli v45 c16_i32_23
  let v51 : Index := Scalar.indexCast v46
  ![v51.toNat]
def k0_off11 (i : grid0.Coords) (k0_t7 : Fin k0_t7_loop.trips) : Fin 1 → Nat :=
  let arg1 : BitVec 32 := BitVec.ofNat 32 (i 1).val
  let c3136_i32 : BitVec 32 := 3136#32
  let v0 : BitVec 32 := Scalar.muli arg1 c3136_i32
  let c0_i32_17 : BitVec 32 := 0#32
  let c1_i32_18 : BitVec 32 := 1#32
  let arg8 : BitVec 32 := Scf.iv c0_i32_17 c1_i32_18 k0_t7
  let c4_i32_24 : BitVec 32 := 4#32
  let v53 : BitVec 32 := Scalar.muli arg8 c4_i32_24
  let c1_i32_25 : BitVec 32 := 1#32
  let v54 : BitVec 32 := Scalar.addi v53 c1_i32_25
  let c16_i32_26 : BitVec 32 := 16#32
  let v55 : BitVec 32 := Scalar.muli v54 c16_i32_26
  let v56 : BitVec 32 := Scalar.addi v0 v55
  let v57 : Index := Scalar.indexCast v56
  ![v57.toNat]

def k0_chk5 (i : grid0.Coords) (v58 : IVec S16 32) : Prop :=
  (∀ (k0_h1 : k0_cond1 i = 1#1), ∀ a x, ((![v58] : Fin 1 → IVec S16 32) a x).toNat < S288.size a)
theorem k0_idx4_inb : ∀ (i : grid0.Coords) (v58 : IVec S16 32) (k0_hw5 : k0_chk5 i v58), ∀ (k0_h1 : k0_cond1 i = 1#1), ∀ a x, ((![v58] : Fin 1 → IVec S16 32) a x).toNat < S288.size a := fun i v58 k0_hw5 k0_h1 => k0_hw5 k0_h1
def k0_off12 (k0_t7 : Fin k0_t7_loop.trips) : Fin 1 → Nat :=
  let c0_i32_17 : BitVec 32 := 0#32
  let c1_i32_18 : BitVec 32 := 1#32
  let arg8 : BitVec 32 := Scf.iv c0_i32_17 c1_i32_18 k0_t7
  let c4_i32_24 : BitVec 32 := 4#32
  let v53 : BitVec 32 := Scalar.muli arg8 c4_i32_24
  let c1_i32_25 : BitVec 32 := 1#32
  let v54 : BitVec 32 := Scalar.addi v53 c1_i32_25
  let c16_i32_26 : BitVec 32 := 16#32
  let v55 : BitVec 32 := Scalar.muli v54 c16_i32_26
  let v60 : Index := Scalar.indexCast v55
  ![v60.toNat]
def k0_off13 (i : grid0.Coords) (k0_t7 : Fin k0_t7_loop.trips) : Fin 1 → Nat :=
  let arg1 : BitVec 32 := BitVec.ofNat 32 (i 1).val
  let c3136_i32 : BitVec 32 := 3136#32
  let v0 : BitVec 32 := Scalar.muli arg1 c3136_i32
  let c0_i32_17 : BitVec 32 := 0#32
  let c1_i32_18 : BitVec 32 := 1#32
  let arg8 : BitVec 32 := Scf.iv c0_i32_17 c1_i32_18 k0_t7
  let c4_i32_27 : BitVec 32 := 4#32
  let v62 : BitVec 32 := Scalar.muli arg8 c4_i32_27
  let c2_i32_28 : BitVec 32 := 2#32
  let v63 : BitVec 32 := Scalar.addi v62 c2_i32_28
  let c16_i32_29 : BitVec 32 := 16#32
  let v64 : BitVec 32 := Scalar.muli v63 c16_i32_29
  let v65 : BitVec 32 := Scalar.addi v0 v64
  let v66 : Index := Scalar.indexCast v65
  ![v66.toNat]

def k0_chk6 (i : grid0.Coords) (v67 : IVec S16 32) : Prop :=
  (∀ (k0_h1 : k0_cond1 i = 1#1), ∀ a x, ((![v67] : Fin 1 → IVec S16 32) a x).toNat < S288.size a)
theorem k0_idx5_inb : ∀ (i : grid0.Coords) (v67 : IVec S16 32) (k0_hw6 : k0_chk6 i v67), ∀ (k0_h1 : k0_cond1 i = 1#1), ∀ a x, ((![v67] : Fin 1 → IVec S16 32) a x).toNat < S288.size a := fun i v67 k0_hw6 k0_h1 => k0_hw6 k0_h1
def k0_off14 (k0_t7 : Fin k0_t7_loop.trips) : Fin 1 → Nat :=
  let c0_i32_17 : BitVec 32 := 0#32
  let c1_i32_18 : BitVec 32 := 1#32
  let arg8 : BitVec 32 := Scf.iv c0_i32_17 c1_i32_18 k0_t7
  let c4_i32_27 : BitVec 32 := 4#32
  let v62 : BitVec 32 := Scalar.muli arg8 c4_i32_27
  let c2_i32_28 : BitVec 32 := 2#32
  let v63 : BitVec 32 := Scalar.addi v62 c2_i32_28
  let c16_i32_29 : BitVec 32 := 16#32
  let v64 : BitVec 32 := Scalar.muli v63 c16_i32_29
  let v69 : Index := Scalar.indexCast v64
  ![v69.toNat]
def k0_off15 (i : grid0.Coords) (k0_t7 : Fin k0_t7_loop.trips) : Fin 1 → Nat :=
  let arg1 : BitVec 32 := BitVec.ofNat 32 (i 1).val
  let c3136_i32 : BitVec 32 := 3136#32
  let v0 : BitVec 32 := Scalar.muli arg1 c3136_i32
  let c0_i32_17 : BitVec 32 := 0#32
  let c1_i32_18 : BitVec 32 := 1#32
  let arg8 : BitVec 32 := Scf.iv c0_i32_17 c1_i32_18 k0_t7
  let c4_i32_30 : BitVec 32 := 4#32
  let v71 : BitVec 32 := Scalar.muli arg8 c4_i32_30
  let c3_i32 : BitVec 32 := 3#32
  let v72 : BitVec 32 := Scalar.addi v71 c3_i32
  let c16_i32_31 : BitVec 32 := 16#32
  let v73 : BitVec 32 := Scalar.muli v72 c16_i32_31
  let v74 : BitVec 32 := Scalar.addi v0 v73
  let v75 : Index := Scalar.indexCast v74
  ![v75.toNat]

def k0_chk7 (i : grid0.Coords) (v76 : IVec S16 32) : Prop :=
  (∀ (k0_h1 : k0_cond1 i = 1#1), ∀ a x, ((![v76] : Fin 1 → IVec S16 32) a x).toNat < S288.size a)
theorem k0_idx6_inb : ∀ (i : grid0.Coords) (v76 : IVec S16 32) (k0_hw7 : k0_chk7 i v76), ∀ (k0_h1 : k0_cond1 i = 1#1), ∀ a x, ((![v76] : Fin 1 → IVec S16 32) a x).toNat < S288.size a := fun i v76 k0_hw7 k0_h1 => k0_hw7 k0_h1
def k0_off16 (k0_t7 : Fin k0_t7_loop.trips) : Fin 1 → Nat :=
  let c0_i32_17 : BitVec 32 := 0#32
  let c1_i32_18 : BitVec 32 := 1#32
  let arg8 : BitVec 32 := Scf.iv c0_i32_17 c1_i32_18 k0_t7
  let c4_i32_30 : BitVec 32 := 4#32
  let v71 : BitVec 32 := Scalar.muli arg8 c4_i32_30
  let c3_i32 : BitVec 32 := 3#32
  let v72 : BitVec 32 := Scalar.addi v71 c3_i32
  let c16_i32_31 : BitVec 32 := 16#32
  let v73 : BitVec 32 := Scalar.muli v72 c16_i32_31
  let v78 : Index := Scalar.indexCast v73
  ![v78.toNat]
def k0_off17 (i : grid0.Coords) : Fin 1 → Nat :=
  let arg1 : BitVec 32 := BitVec.ofNat 32 (i 1).val
  let c3136_i32_20 : BitVec 32 := 3136#32
  let v43 : BitVec 32 := Scalar.muli arg1 c3136_i32_20
  ![v43.toNat]
def k0_cond2 (i : grid0.Coords) : BitVec 1 :=
  let arg1 : BitVec 32 := BitVec.ofNat 32 (i 1).val
  let c15_i32_14 : BitVec 32 := 15#32
  let v39 : BitVec 1 := Scalar.cmpi .eq arg1 c15_i32_14
  let v40 : BitVec 32 := Scalar.extui v39
  let c0_i32_15 : BitVec 32 := 0#32
  let v41 : BitVec 1 := Scalar.cmpi .ne v40 c0_i32_15
  v41

@[reducible] def k0_t8_loop : Scf.Loop 32 :=
  let c0_i32_17 : BitVec 32 := 0#32
  let c46_i32 : BitVec 32 := 46#32
  let v42 : BitVec 32 := Scalar.addi c0_i32_17 c46_i32
  let c1_i32_18 : BitVec 32 := 1#32
  ⟨c0_i32_17, v42, c1_i32_18⟩
def k0_off18 (i : grid0.Coords) (k0_t8 : Fin k0_t8_loop.trips) : Fin 1 → Nat :=
  let arg1 : BitVec 32 := BitVec.ofNat 32 (i 1).val
  let c3136_i32 : BitVec 32 := 3136#32
  let v0 : BitVec 32 := Scalar.muli arg1 c3136_i32
  let c0_i32_17 : BitVec 32 := 0#32
  let c1_i32_18 : BitVec 32 := 1#32
  let arg8 : BitVec 32 := Scf.iv c0_i32_17 c1_i32_18 k0_t8
  let c4_i32_23 : BitVec 32 := 4#32
  let v50 : BitVec 32 := Scalar.muli arg8 c4_i32_23
  let c0_i32_24 : BitVec 32 := 0#32
  let v51 : BitVec 32 := Scalar.addi v50 c0_i32_24
  let c16_i32_25 : BitVec 32 := 16#32
  let v52 : BitVec 32 := Scalar.muli v51 c16_i32_25
  let v53 : BitVec 32 := Scalar.addi v0 v52
  let v54 : Index := Scalar.indexCast v53
  ![v54.toNat]

def k0_chk8 (i : grid0.Coords) (v55 : IVec S16 32) : Prop :=
  (∀ (k0_h2 : k0_cond2 i = 1#1), ∀ a x, ((![v55] : Fin 1 → IVec S16 32) a x).toNat < S288.size a)
theorem k0_idx7_inb : ∀ (i : grid0.Coords) (v55 : IVec S16 32) (k0_hw8 : k0_chk8 i v55), ∀ (k0_h2 : k0_cond2 i = 1#1), ∀ a x, ((![v55] : Fin 1 → IVec S16 32) a x).toNat < S288.size a := fun i v55 k0_hw8 k0_h2 => k0_hw8 k0_h2
def k0_off19 (k0_t8 : Fin k0_t8_loop.trips) : Fin 1 → Nat :=
  let c0_i32_17 : BitVec 32 := 0#32
  let c1_i32_18 : BitVec 32 := 1#32
  let arg8 : BitVec 32 := Scf.iv c0_i32_17 c1_i32_18 k0_t8
  let c4_i32_23 : BitVec 32 := 4#32
  let v50 : BitVec 32 := Scalar.muli arg8 c4_i32_23
  let c0_i32_24 : BitVec 32 := 0#32
  let v51 : BitVec 32 := Scalar.addi v50 c0_i32_24
  let c16_i32_25 : BitVec 32 := 16#32
  let v52 : BitVec 32 := Scalar.muli v51 c16_i32_25
  let v57 : Index := Scalar.indexCast v52
  ![v57.toNat]
def k0_off20 (i : grid0.Coords) (k0_t8 : Fin k0_t8_loop.trips) : Fin 1 → Nat :=
  let arg1 : BitVec 32 := BitVec.ofNat 32 (i 1).val
  let c3136_i32 : BitVec 32 := 3136#32
  let v0 : BitVec 32 := Scalar.muli arg1 c3136_i32
  let c0_i32_17 : BitVec 32 := 0#32
  let c1_i32_18 : BitVec 32 := 1#32
  let arg8 : BitVec 32 := Scf.iv c0_i32_17 c1_i32_18 k0_t8
  let c4_i32_26 : BitVec 32 := 4#32
  let v59 : BitVec 32 := Scalar.muli arg8 c4_i32_26
  let c1_i32_27 : BitVec 32 := 1#32
  let v60 : BitVec 32 := Scalar.addi v59 c1_i32_27
  let c16_i32_28 : BitVec 32 := 16#32
  let v61 : BitVec 32 := Scalar.muli v60 c16_i32_28
  let v62 : BitVec 32 := Scalar.addi v0 v61
  let v63 : Index := Scalar.indexCast v62
  ![v63.toNat]

def k0_chk9 (i : grid0.Coords) (v64 : IVec S16 32) : Prop :=
  (∀ (k0_h2 : k0_cond2 i = 1#1), ∀ a x, ((![v64] : Fin 1 → IVec S16 32) a x).toNat < S288.size a)
theorem k0_idx8_inb : ∀ (i : grid0.Coords) (v64 : IVec S16 32) (k0_hw9 : k0_chk9 i v64), ∀ (k0_h2 : k0_cond2 i = 1#1), ∀ a x, ((![v64] : Fin 1 → IVec S16 32) a x).toNat < S288.size a := fun i v64 k0_hw9 k0_h2 => k0_hw9 k0_h2
def k0_off21 (k0_t8 : Fin k0_t8_loop.trips) : Fin 1 → Nat :=
  let c0_i32_17 : BitVec 32 := 0#32
  let c1_i32_18 : BitVec 32 := 1#32
  let arg8 : BitVec 32 := Scf.iv c0_i32_17 c1_i32_18 k0_t8
  let c4_i32_26 : BitVec 32 := 4#32
  let v59 : BitVec 32 := Scalar.muli arg8 c4_i32_26
  let c1_i32_27 : BitVec 32 := 1#32
  let v60 : BitVec 32 := Scalar.addi v59 c1_i32_27
  let c16_i32_28 : BitVec 32 := 16#32
  let v61 : BitVec 32 := Scalar.muli v60 c16_i32_28
  let v66 : Index := Scalar.indexCast v61
  ![v66.toNat]
def k0_off22 (i : grid0.Coords) (k0_t8 : Fin k0_t8_loop.trips) : Fin 1 → Nat :=
  let arg1 : BitVec 32 := BitVec.ofNat 32 (i 1).val
  let c3136_i32 : BitVec 32 := 3136#32
  let v0 : BitVec 32 := Scalar.muli arg1 c3136_i32
  let c0_i32_17 : BitVec 32 := 0#32
  let c1_i32_18 : BitVec 32 := 1#32
  let arg8 : BitVec 32 := Scf.iv c0_i32_17 c1_i32_18 k0_t8
  let c4_i32_29 : BitVec 32 := 4#32
  let v68 : BitVec 32 := Scalar.muli arg8 c4_i32_29
  let c2_i32_30 : BitVec 32 := 2#32
  let v69 : BitVec 32 := Scalar.addi v68 c2_i32_30
  let c16_i32_31 : BitVec 32 := 16#32
  let v70 : BitVec 32 := Scalar.muli v69 c16_i32_31
  let v71 : BitVec 32 := Scalar.addi v0 v70
  let v72 : Index := Scalar.indexCast v71
  ![v72.toNat]

def k0_chk10 (i : grid0.Coords) (v73 : IVec S16 32) : Prop :=
  (∀ (k0_h2 : k0_cond2 i = 1#1), ∀ a x, ((![v73] : Fin 1 → IVec S16 32) a x).toNat < S288.size a)
theorem k0_idx9_inb : ∀ (i : grid0.Coords) (v73 : IVec S16 32) (k0_hw10 : k0_chk10 i v73), ∀ (k0_h2 : k0_cond2 i = 1#1), ∀ a x, ((![v73] : Fin 1 → IVec S16 32) a x).toNat < S288.size a := fun i v73 k0_hw10 k0_h2 => k0_hw10 k0_h2
def k0_off23 (k0_t8 : Fin k0_t8_loop.trips) : Fin 1 → Nat :=
  let c0_i32_17 : BitVec 32 := 0#32
  let c1_i32_18 : BitVec 32 := 1#32
  let arg8 : BitVec 32 := Scf.iv c0_i32_17 c1_i32_18 k0_t8
  let c4_i32_29 : BitVec 32 := 4#32
  let v68 : BitVec 32 := Scalar.muli arg8 c4_i32_29
  let c2_i32_30 : BitVec 32 := 2#32
  let v69 : BitVec 32 := Scalar.addi v68 c2_i32_30
  let c16_i32_31 : BitVec 32 := 16#32
  let v70 : BitVec 32 := Scalar.muli v69 c16_i32_31
  let v75 : Index := Scalar.indexCast v70
  ![v75.toNat]
def k0_off24 (i : grid0.Coords) (k0_t8 : Fin k0_t8_loop.trips) : Fin 1 → Nat :=
  let arg1 : BitVec 32 := BitVec.ofNat 32 (i 1).val
  let c3136_i32 : BitVec 32 := 3136#32
  let v0 : BitVec 32 := Scalar.muli arg1 c3136_i32
  let c0_i32_17 : BitVec 32 := 0#32
  let c1_i32_18 : BitVec 32 := 1#32
  let arg8 : BitVec 32 := Scf.iv c0_i32_17 c1_i32_18 k0_t8
  let c4_i32_32 : BitVec 32 := 4#32
  let v77 : BitVec 32 := Scalar.muli arg8 c4_i32_32
  let c3_i32 : BitVec 32 := 3#32
  let v78 : BitVec 32 := Scalar.addi v77 c3_i32
  let c16_i32_33 : BitVec 32 := 16#32
  let v79 : BitVec 32 := Scalar.muli v78 c16_i32_33
  let v80 : BitVec 32 := Scalar.addi v0 v79
  let v81 : Index := Scalar.indexCast v80
  ![v81.toNat]

def k0_chk11 (i : grid0.Coords) (v82 : IVec S16 32) : Prop :=
  (∀ (k0_h2 : k0_cond2 i = 1#1), ∀ a x, ((![v82] : Fin 1 → IVec S16 32) a x).toNat < S288.size a)
theorem k0_idx10_inb : ∀ (i : grid0.Coords) (v82 : IVec S16 32) (k0_hw11 : k0_chk11 i v82), ∀ (k0_h2 : k0_cond2 i = 1#1), ∀ a x, ((![v82] : Fin 1 → IVec S16 32) a x).toNat < S288.size a := fun i v82 k0_hw11 k0_h2 => k0_hw11 k0_h2
def k0_off25 (k0_t8 : Fin k0_t8_loop.trips) : Fin 1 → Nat :=
  let c0_i32_17 : BitVec 32 := 0#32
  let c1_i32_18 : BitVec 32 := 1#32
  let arg8 : BitVec 32 := Scf.iv c0_i32_17 c1_i32_18 k0_t8
  let c4_i32_32 : BitVec 32 := 4#32
  let v77 : BitVec 32 := Scalar.muli arg8 c4_i32_32
  let c3_i32 : BitVec 32 := 3#32
  let v78 : BitVec 32 := Scalar.addi v77 c3_i32
  let c16_i32_33 : BitVec 32 := 16#32
  let v79 : BitVec 32 := Scalar.muli v78 c16_i32_33
  let v84 : Index := Scalar.indexCast v79
  ![v84.toNat]
def k0_off26 (i : grid0.Coords) : Fin 1 → Nat :=
  let arg1 : BitVec 32 := BitVec.ofNat 32 (i 1).val
  let c3136_i32 : BitVec 32 := 3136#32
  let v0 : BitVec 32 := Scalar.muli arg1 c3136_i32
  let c2960_i32_20 : BitVec 32 := 2960#32
  let v43 : BitVec 32 := Scalar.addi v0 c2960_i32_20
  let c16_i32_21 : BitVec 32 := 16#32
  let v44 : BitVec 32 := Scalar.subi v43 c16_i32_21
  let v45 : Index := Scalar.indexCast v44
  ![v45.toNat]

def k0_chk12 (i : grid0.Coords) (v46 : IVec S16 32) : Prop :=
  (∀ (k0_h2 : k0_cond2 i = 1#1), ∀ a x, ((![v46] : Fin 1 → IVec S16 32) a x).toNat < S288.size a)
theorem k0_idx11_inb : ∀ (i : grid0.Coords) (v46 : IVec S16 32) (k0_hw12 : k0_chk12 i v46), ∀ (k0_h2 : k0_cond2 i = 1#1), ∀ a x, ((![v46] : Fin 1 → IVec S16 32) a x).toNat < S288.size a := fun i v46 k0_hw12 k0_h2 => k0_hw12 k0_h2
def k0_off27 (i : grid0.Coords) : Fin 1 → Nat :=
  let arg1 : BitVec 32 := BitVec.ofNat 32 (i 1).val
  let c3136_i32_22 : BitVec 32 := 3136#32
  let v49 : BitVec 32 := Scalar.muli arg1 c3136_i32_22
  ![v49.toNat]
abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S_ : Shape := ⟨0, ![]⟩
abbrev S256 : Shape := ⟨1, ![256]⟩
abbrev S50000x1 : Shape := ⟨2, ![50000, 1]⟩
abbrev S1 : Shape := ⟨1, ![1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S_, .f32⟩
  | .hbm, ⟨3, _⟩ => ⟨S50000, .f32⟩
  | .hbm, ⟨4, _⟩ => ⟨S_, .f32⟩
  | .hbm, ⟨5, _⟩ => ⟨S256, .f32⟩
  | .hbm, ⟨6, _⟩ => ⟨S50000x1, .i32⟩
  | .hbm, ⟨7, _⟩ => ⟨S256, .f32⟩
  | .hbm, ⟨8, _⟩ => ⟨S256, .f32⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S1, .i32⟩
  | .hbm, ⟨18, _⟩ => ⟨S_, .i32⟩
  | .hbm, ⟨19, _⟩ => ⟨S50000x1, .i32⟩
  | .hbm, ⟨20, _⟩ => ⟨S50000x1, .i1⟩
  | .hbm, ⟨21, _⟩ => ⟨S1x1, .i32⟩
  | .hbm, ⟨22, _⟩ => ⟨S50000x1, .i32⟩
  | .hbm, ⟨23, _⟩ => ⟨S50000x1, .i1⟩
  | .hbm, ⟨24, _⟩ => ⟨S50000x1, .i1⟩
  | .hbm, ⟨25, _⟩ => ⟨S_, .i1⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩

abbrev nD : Nat := 1
abbrev τ : Topo := Topo.v7x

variable {F : FTy → Type} [FloatOps F]
-- ==== Proof.Words.lean ====
/-
  The arithmetic of the SparseCore body's index words, away from any memory: the bounds of its chunk loops and the
  offsets of their loads and stores as plain numbers, one step of the lane-wise binary search, the running minimum and
  maximum at their last lane, and what a finished search means on sorted ids.
-/
module

public import proofs.«01_k».proof.Proof.Gen.KernelIdeal
public import proofs.«01_k».proof.Proof.Gen.KernelIdeal.Skeleton
public import Idealize.ShloMosaic.Lib.Tactic

@[expose] public section

noncomputable section

namespace Cert.Proof.Words

open Cert.KernelIdeal Cert.KernelIdeal.Gen
open Idealize.ShloMosaic

/-! ## The chunk loops -/

/-- The first chunk a tile searches, from its smallest id. -/
abbrev cLo (v10 : BitVec 32) : ℕ := v10.toNat / 16
/-- The chunk holding the bin after the tile's largest id. -/
abbrev cHi (v20 : BitVec 32) : ℕ := (v20.toNat + 1) / 16

/-- Dividing a word by one leaves it. -/
theorem divsi_one (x : BitVec 32) : Scalar.divsi x 1#32 = x := by
  show (if IntOp.SDivCorner x 1#32 then _ else x.sdiv 1#32) = x
  rw [if_neg (by simp [IntOp.SDivCorner])]
  simp
/-- Multiplying a word by one leaves it. -/
theorem muli_one (x : BitVec 32) : Scalar.muli x 1#32 = x := by
  show x * 1#32 = x
  simp
/-- Adding the distance from `x` to `y` to `x` gives `y`. -/
theorem addi_subi (x y : BitVec 32) : Scalar.addi x (Scalar.subi y x) = y := by
  show x + (y - x) = y
  rw [BitVec.add_comm, BitVec.sub_add_cancel]
/-- Shifting a word right by four divides it by sixteen. -/
theorem shrui_four (x : BitVec 32) : (Scalar.shrui x 4#32).toNat = x.toNat / 16 := by
  show (if (4#32 : BitVec 32).toNat < 32 then x >>> (4#32 : BitVec 32) else IntOp.cornerWord .scalar .shrui x 4#32).toNat = _
  rw [if_pos (by decide), BitVec.ushiftRight_eq', BitVec.toNat_ushiftRight, Nat.shiftRight_eq_div_pow]
  rfl

/-- The first chunk bound as a word. -/
theorem lo_eq (x : BitVec 32) : Scalar.shrui x 4#32 = BitVec.ofNat 32 (cLo x) := by
  apply BitVec.eq_of_toNat_eq
  rw [shrui_four, BitVec.toNat_ofNat, Nat.mod_eq_of_lt (by have := x.isLt; unfold cLo; omega)]
/-- A last chunk bound as a word: `(x + 1) / 16 + b` does not wrap for `x` below 256. -/
theorem hi_eq {x : BitVec 32} (hx : x.toNat < 256) (b : ℕ) :
    Scalar.addi (Scalar.shrui (Scalar.addi x 1#32) 4#32) (BitVec.ofNat 32 b) = BitVec.ofNat 32 (cHi x + b) := by
  have h1 : (Scalar.addi x 1#32).toNat = x.toNat + 1 := by
    show (x + 1#32).toNat = _
    rw [BitVec.toNat_add]; simp; omega
  have h2 : Scalar.shrui (Scalar.addi x 1#32) 4#32 = BitVec.ofNat 32 (cHi x) := by
    rw [lo_eq]; unfold cLo cHi; rw [h1]
  rw [h2]
  show BitVec.ofNat 32 _ + BitVec.ofNat 32 b = _
  rw [BitVec.ofNat_add]

variable {v10 v20 : BitVec 32}

/-- The search loop runs over the chunks from the smallest id's to one past the chunk holding the bin after the
    largest id's. -/
theorem t1_eq (h2 : v20.toNat < 256) :
    k0_t1_loop v10 v20 = ⟨BitVec.ofNat 32 (cLo v10), BitVec.ofNat 32 (cHi v20 + 2), 1#32⟩ := by
  unfold k0_t1_loop
  simp only [divsi_one, muli_one, addi_subi]
  rw [lo_eq, hi_eq h2 2]
/-- The search loop's remainder loop is empty: it starts where it ends. -/
theorem t3_eq (h2 : v20.toNat < 256) :
    k0_t3_loop v10 v20 = ⟨BitVec.ofNat 32 (cHi v20 + 2), BitVec.ofNat 32 (cHi v20 + 2), 1#32⟩ := by
  unfold k0_t3_loop
  simp only [divsi_one, muli_one, addi_subi]
  rw [hi_eq h2 2]
/-- The difference loop runs over the chunks from the smallest id's to the one holding the bin after the largest
    id's. -/
theorem t5_eq (h2 : v20.toNat < 256) :
    k0_t5_loop v10 v20 = ⟨BitVec.ofNat 32 (cLo v10), BitVec.ofNat 32 (cHi v20 + 1), 1#32⟩ := by
  unfold k0_t5_loop
  simp only [divsi_one, muli_one, addi_subi]
  rw [lo_eq, hi_eq h2 1]
/-- The difference loop's remainder loop is empty: it starts where it ends. -/
theorem t6_eq (h2 : v20.toNat < 256) :
    k0_t6_loop v10 v20 = ⟨BitVec.ofNat 32 (cHi v20 + 1), BitVec.ofNat 32 (cHi v20 + 1), 1#32⟩ := by
  unfold k0_t6_loop
  simp only [divsi_one, muli_one, addi_subi]
  rw [hi_eq h2 1]

/-- A small number, read back from a word with a sign, is itself. -/
theorem toInt_small {n : ℕ} (h : n < 1000000) : (BitVec.ofNat 32 n).toInt = n := by
  rw [BitVec.toInt_eq_toNat_cond, BitVec.toNat_ofNat, Nat.mod_eq_of_lt (by omega), if_pos (by omega)]

/-- A loop from `a` to `b` in steps of one makes `b - a` trips. -/
theorem trips_unit {a b : ℕ} (ha : a < 1000) (hb : b < 1000) :
    (Scf.Loop.mk (BitVec.ofNat 32 a) (BitVec.ofNat 32 b) 1#32).trips = b - a := by
  show Scf.trips _ _ _ = _
  unfold Scf.trips
  rw [toInt_small (by omega), toInt_small (by omega), show (1#32 : BitVec 32).toInt = 1 from by decide]
  omega
/-- A loop between small bounds in steps of one has a meaning. -/
theorem ok_unit {a b : ℕ} (ha : a < 1000) (hb : b < 1000) :
    (Scf.Loop.mk (BitVec.ofNat 32 a) (BitVec.ofNat 32 b) 1#32).OK := by
  show Scf.OK _ _ _
  unfold Scf.OK
  rw [show Scf.trips _ _ _ = b - a from trips_unit ha hb]
  show 0 < (1#32 : BitVec 32).toInt ∧ (BitVec.ofNat 32 a).toInt + ((b - a : ℕ) : ℤ) * (1#32 : BitVec 32).toInt < 2 ^ (32 - 1)
  rw [toInt_small (n := a) (by omega), toInt_small (n := 1) (by omega)]
  constructor <;> omega

/-- The number of trips of the search loop. -/
theorem t1_trips (h1 : v10.toNat < 256) (h2 : v20.toNat < 256) : (k0_t1_loop v10 v20).trips = cHi v20 + 2 - cLo v10 := by
  rw [t1_eq h2, trips_unit (by unfold cLo; omega) (by unfold cHi; omega)]
/-- The search loop's remainder loop makes no trip. -/
theorem t3_trips (h2 : v20.toNat < 256) : (k0_t3_loop v10 v20).trips = 0 := by
  rw [t3_eq h2, trips_unit (by unfold cHi; omega) (by unfold cHi; omega), Nat.sub_self]
/-- The number of trips of the difference loop. -/
theorem t5_trips (h1 : v10.toNat < 256) (h2 : v20.toNat < 256) : (k0_t5_loop v10 v20).trips = cHi v20 + 1 - cLo v10 := by
  rw [t5_eq h2, trips_unit (by unfold cLo; omega) (by unfold cHi; omega)]
/-- The difference loop's remainder loop makes no trip. -/
theorem t6_trips (h2 : v20.toNat < 256) : (k0_t6_loop v10 v20).trips = 0 := by
  rw [t6_eq h2, trips_unit (by unfold cHi; omega) (by unfold cHi; omega), Nat.sub_self]

/-- Chunk `t` from chunk `v10 / 16` on starts at word `16 (v10 / 16 + t)`. -/
theorem chunk_off (t : ℕ) (ht : cLo v10 + t < 1000) :
    (Scalar.muli (Scf.iv (Scalar.shrui v10 4#32) 1#32 t) 16#32) = BitVec.ofNat 32 (16 * (cLo v10 + t)) := by
  show (Scalar.shrui v10 4#32 + BitVec.ofNat 32 t * 1#32) * 16#32 = _
  rw [lo_eq, BitVec.mul_one, ← BitVec.ofNat_add, ← BitVec.ofNat_mul, Nat.mul_comm]

/-- The start of a chunk as a number. -/
theorem chunk_toNat (t : ℕ) (ht : cLo v10 + t < 1000) :
    (Scalar.muli (Scf.iv (Scalar.shrui v10 4#32) 1#32 t) 16#32).toNat = 16 * (cLo v10 + t) := by
  rw [chunk_off t ht, BitVec.toNat_ofNat, Nat.mod_eq_of_lt (by omega)]
/-- The word after the start of a chunk as a number. -/
theorem chunk_next_toNat (t : ℕ) (ht : cLo v10 + t < 1000) :
    (Scalar.addi (Scalar.muli (Scf.iv (Scalar.shrui v10 4#32) 1#32 t) 16#32) 1#32).toNat = 16 * (cLo v10 + t) + 1 := by
  rw [chunk_off t ht]
  show (BitVec.ofNat 32 _ + BitVec.ofNat 32 1).toNat = _
  rw [← BitVec.ofNat_add, BitVec.toNat_ofNat, Nat.mod_eq_of_lt (by omega)]

/-- The chunk of a trip of the search loop is below the loop's bound. -/
theorem t1_lt (h1 : v10.toNat < 256) (h2 : v20.toNat < 256) (t : Fin (k0_t1_loop v10 v20).trips) : cLo v10 + t.val < cHi v20 + 2 := by
  have ht := t.isLt
  have e := t1_trips h1 h2
  omega
/-- The chunk of a trip of the difference loop is below the loop's bound. -/
theorem t5_lt (h1 : v10.toNat < 256) (h2 : v20.toNat < 256) (t : Fin (k0_t5_loop v10 v20).trips) : cLo v10 + t.val < cHi v20 + 1 := by
  have ht := t.isLt
  have e := t5_trips h1 h2
  omega
/-- The bin after an id below 256 is in one of the chunks up to the sixteenth. -/
theorem cHi_le (h2 : v20.toNat < 256) : cHi v20 ≤ 16 := by unfold cHi; omega

/-- The search loop stores a trip's bounds at the start of the trip's chunk. -/
theorem off3_eq (h1 : v10.toNat < 256) (h2 : v20.toNat < 256) (t : Fin (k0_t1_loop v10 v20).trips) :
    k0_off3 v10 v20 t = ![16 * (cLo v10 + t.val)] := by
  have ht := t1_lt h1 h2 t
  have hb := cHi_le h2
  exact congrArg (fun n : ℕ => (![n] : Fin 1 → ℕ)) (chunk_toNat t.val (by omega))
/-- The difference loop loads the lower bounds at the start of the trip's chunk. -/
theorem off5_eq (h1 : v10.toNat < 256) (h2 : v20.toNat < 256) (t : Fin (k0_t5_loop v10 v20).trips) :
    k0_off5 v10 v20 t = ![16 * (cLo v10 + t.val)] := by
  have ht := t5_lt h1 h2 t
  have hb := cHi_le h2
  exact congrArg (fun n : ℕ => (![n] : Fin 1 → ℕ)) (chunk_toNat t.val (by omega))
/-- The difference loop loads the upper bounds one word further. -/
theorem off6_eq (h1 : v10.toNat < 256) (h2 : v20.toNat < 256) (t : Fin (k0_t5_loop v10 v20).trips) :
    k0_off6 v10 v20 t = ![16 * (cLo v10 + t.val) + 1] := by
  have ht := t5_lt h1 h2 t
  have hb := cHi_le h2
  exact congrArg (fun n : ℕ => (![n] : Fin 1 → ℕ)) (chunk_next_toNat t.val (by omega))

/-- The body's first check passes whenever both extreme ids are below 256: the loops have a meaning and every access
    of the two bin tables is inside them. -/
theorem chk1 (h1 : v10.toNat < 256) (h2 : v20.toNat < 256) : k0_chk1 v10 v20 := by
  have hb := cHi_le h2
  have hl : cLo v10 < 1000 := by unfold cLo; omega
  refine ⟨?_, fun t a => ?_, ?_, fun t => ?_, ?_, fun t a => ?_, fun t a => ?_, ?_, fun t => ?_, fun t => ?_⟩
  · rw [t1_eq h2]; exact ok_unit hl (by omega)
  · rw [off3_eq h1 h2]
    have ht := t1_lt h1 h2 t
    obtain rfl : a = 0 := Subsingleton.elim _ _
    show 16 * (cLo v10 + t.val) + 16 ≤ 288
    omega
  · rw [t3_eq h2]; exact ok_unit (by omega) (by omega)
  · exact absurd (lt_of_lt_of_eq t.isLt (t3_trips h2)) (Nat.not_lt_zero _)
  · rw [t5_eq h2]; exact ok_unit hl (by omega)
  · rw [off5_eq h1 h2]
    have ht := t5_lt h1 h2 t
    obtain rfl : a = 0 := Subsingleton.elim _ _
    show 16 * (cLo v10 + t.val) + 16 ≤ 288
    omega
  · rw [off6_eq h1 h2]
    have ht := t5_lt h1 h2 t
    obtain rfl : a = 0 := Subsingleton.elim _ _
    show 16 * (cLo v10 + t.val) + 1 + 16 ≤ 288
    omega
  · rw [t6_eq h2]; exact ok_unit (by omega) (by omega)
  · exact absurd (lt_of_lt_of_eq t.isLt (t6_trips h2)) (Nat.not_lt_zero _)
  · exact absurd (lt_of_lt_of_eq t.isLt (t6_trips h2)) (Nat.not_lt_zero _)

/-! ## The running extremes -/

/-- Flipping the sign bit of a word below `2^31` adds `2^31`. -/
theorem flip_toNat {x : BitVec 32} (hx : x.toNat < 2 ^ 31) : (IntOp.xori x 2147483648#32).toNat = x.toNat + 2 ^ 31 := by
  show (x ^^^ 2147483648#32).toNat = _
  rw [BitVec.toNat_xor, show (2147483648#32 : BitVec 32).toNat = 2 ^ 31 from by decide]
  have h := Nat.two_pow_add_eq_or_of_lt hx 1
  rw [Nat.mul_one] at h
  rw [Nat.add_comm, h]
  apply Nat.eq_of_testBit_eq
  intro i
  rw [Nat.testBit_xor, Nat.testBit_or, Nat.testBit_two_pow]
  by_cases hi : 31 = i
  · subst hi; rw [Nat.testBit_lt_two_pow hx]; simp
  · simp [hi]
/-- Flipping the sign bit twice leaves a word. -/
theorem flip_flip (x : BitVec 32) : IntOp.xori (IntOp.xori x 2147483648#32) 2147483648#32 = x := by
  show (x ^^^ 2147483648#32) ^^^ 2147483648#32 = x
  rw [BitVec.xor_assoc, BitVec.xor_self, BitVec.xor_zero]

/-- A running minimum is one of the words folded, and no more than any of them. -/
theorem foldl_min {ι : Type} (f : ι → BitVec 32) : ∀ (l : List ι) (r : BitVec 32),
    let q := l.foldl (fun r k => ScanKind.min.step r (f k)) r
    (q = r ∨ ∃ k ∈ l, q = f k) ∧ q.toNat ≤ r.toNat ∧ ∀ k ∈ l, q.toNat ≤ (f k).toNat
  | [], r => by simp
  | k :: l, r => by
    have h := foldl_min f l (ScanKind.min.step r (f k))
    have hs : (ScanKind.min.step r (f k) = r ∧ r.toNat ≤ (f k).toNat) ∨ (ScanKind.min.step r (f k) = f k ∧ (f k).toNat ≤ r.toNat) := by
      show ((if r.ult (f k) then r else f k) = r ∧ _) ∨ ((if r.ult (f k) then r else f k) = f k ∧ _)
      by_cases hu : r.ult (f k)
      · left; rw [if_pos hu]; exact ⟨rfl, by rw [BitVec.ult, decide_eq_true_eq] at hu; omega⟩
      · right; rw [if_neg hu]; exact ⟨rfl, by rw [BitVec.ult, decide_eq_true_eq] at hu; omega⟩
    simp only [List.foldl_cons]
    obtain ⟨h1, h2, h3⟩ := h
    refine ⟨?_, ?_, ?_⟩
    · rcases h1 with h1 | ⟨k', hk', h1⟩
      · rcases hs with ⟨hs, -⟩ | ⟨hs, -⟩
        · left; rw [h1, hs]
        · right; exact ⟨k, List.mem_cons_self, by rw [h1, hs]⟩
      · right; exact ⟨k', List.mem_cons_of_mem _ hk', h1⟩
    · refine h2.trans ?_
      rcases hs with ⟨hs, h⟩ | ⟨hs, h⟩ <;> rw [hs]
      exact h
    · intro k' hk'
      rcases List.mem_cons.mp hk' with rfl | hk'
      · refine h2.trans ?_
        rcases hs with ⟨hs, h⟩ | ⟨hs, h⟩ <;> rw [hs]
        exact h
      · exact h3 k' hk'

/-- A running maximum is one of the words folded, and no less than any of them. -/
theorem foldl_max {ι : Type} (f : ι → BitVec 32) : ∀ (l : List ι) (r : BitVec 32),
    let q := l.foldl (fun r k => ScanKind.max.step r (f k)) r
    (q = r ∨ ∃ k ∈ l, q = f k) ∧ r.toNat ≤ q.toNat ∧ ∀ k ∈ l, (f k).toNat ≤ q.toNat
  | [], r => by simp
  | k :: l, r => by
    have h := foldl_max f l (ScanKind.max.step r (f k))
    have hs : (ScanKind.max.step r (f k) = r ∧ (f k).toNat ≤ r.toNat) ∨ (ScanKind.max.step r (f k) = f k ∧ r.toNat ≤ (f k).toNat) := by
      show ((if (f k).ult r then r else f k) = r ∧ _) ∨ ((if (f k).ult r then r else f k) = f k ∧ _)
      by_cases hu : (f k).ult r
      · left; rw [if_pos hu]; exact ⟨rfl, by rw [BitVec.ult, decide_eq_true_eq] at hu; omega⟩
      · right; rw [if_neg hu]; exact ⟨rfl, by rw [BitVec.ult, decide_eq_true_eq] at hu; omega⟩
    simp only [List.foldl_cons]
    obtain ⟨h1, h2, h3⟩ := h
    refine ⟨?_, ?_, ?_⟩
    · rcases h1 with h1 | ⟨k', hk', h1⟩
      · rcases hs with ⟨hs, -⟩ | ⟨hs, -⟩
        · left; rw [h1, hs]
        · right; exact ⟨k, List.mem_cons_self, by rw [h1, hs]⟩
      · right; exact ⟨k', List.mem_cons_of_mem _ hk', h1⟩
    · refine le_trans ?_ h2
      rcases hs with ⟨hs, h⟩ | ⟨hs, h⟩ <;> rw [hs]
      exact h
    · intro k' hk'
      rcases List.mem_cons.mp hk' with rfl | hk'
      · refine le_trans ?_ h2
        rcases hs with ⟨hs, h⟩ | ⟨hs, h⟩ <;> rw [hs]
        exact h
      · exact h3 k' hk'

/-- A lane of a sixteen-lane vector. -/
abbrev lane (l : Fin 16) : S16.Idx := Shape.ofLane (d := S16.size) l

/-- Every index of a sixteen-lane vector is a lane. -/
theorem lane_surj (x : S16.Idx) : ∃ l : Fin 16, x = lane l := by
  refine ⟨x 0, ?_⟩
  funext a
  obtain rfl : a = 0 := Subsingleton.elim _ _
  rfl

variable {F : FTy → Type} [FloatOps F]

/-- The tile's smallest id: the last lane of the running minimum is one of the sixteen words and at most each of them. -/
theorem pay3_last (v4 : Vec F S16 .i32) (hv : ∀ l, (v4 (lane l)).toNat < 2 ^ 31) :
    (∃ l, extractAt ![15] (k0_pay3 v4) inpos_S16_p15 = v4 (lane l))
      ∧ ∀ l, (extractAt ![15] (k0_pay3 v4) inpos_S16_p15).toNat ≤ (v4 (lane l)).toNat := by
  let g : Fin 16 → BitVec 32 := fun l => IntOp.xori (v4 (lane l)) 2147483648#32
  let q : BitVec 32 := ((List.finRange 16).filter fun k => decide (0 < k.val ∧ k.val ≤ 15)).foldl (fun r k => ScanKind.min.step r (g k)) (g 0)
  have hq : extractAt ![15] (k0_pay3 v4) inpos_S16_p15 = IntOp.xori q 2147483648#32 := rfl
  obtain ⟨h1, h2, h3⟩ := foldl_min g ((List.finRange 16).filter fun k => decide (0 < k.val ∧ k.val ≤ 15)) (g 0)
  have hle : ∀ l, q.toNat ≤ (g l).toNat := fun l => by
    rcases Nat.eq_zero_or_pos l.val with h0 | h0
    · obtain rfl : l = 0 := Fin.ext h0
      exact h2
    · exact h3 l (List.mem_filter.mpr ⟨List.mem_finRange _, decide_eq_true ⟨h0, by omega⟩⟩)
  have hex : ∃ l, q = g l := by
    rcases h1 with h | ⟨k, -, h⟩
    · exact ⟨0, h⟩
    · exact ⟨k, h⟩
  obtain ⟨l₀, hl₀⟩ := hex
  have e : IntOp.xori q 2147483648#32 = v4 (lane l₀) := by rw [hl₀]; exact flip_flip _
  refine ⟨⟨l₀, hq.trans e⟩, fun l => ?_⟩
  rw [hq, e]
  have := hle l
  rw [hl₀] at this
  simp only [g] at this
  rw [flip_toNat (hv l₀), flip_toNat (hv l)] at this
  omega
/-- The tile's largest id likewise. -/
theorem pay4_last (v14 : Vec F S16 .i32) (hv : ∀ l, (v14 (lane l)).toNat < 2 ^ 31) :
    (∃ l, extractAt ![15] (k0_pay4 v14) inpos_S16_p15 = v14 (lane l))
      ∧ ∀ l, (v14 (lane l)).toNat ≤ (extractAt ![15] (k0_pay4 v14) inpos_S16_p15).toNat := by
  let g : Fin 16 → BitVec 32 := fun l => IntOp.xori (v14 (lane l)) 2147483648#32
  let q : BitVec 32 := ((List.finRange 16).filter fun k => decide (0 < k.val ∧ k.val ≤ 15)).foldl (fun r k => ScanKind.max.step r (g k)) (g 0)
  have hq : extractAt ![15] (k0_pay4 v14) inpos_S16_p15 = IntOp.xori q 2147483648#32 := rfl
  obtain ⟨h1, h2, h3⟩ := foldl_max g ((List.finRange 16).filter fun k => decide (0 < k.val ∧ k.val ≤ 15)) (g 0)
  have hle : ∀ l, (g l).toNat ≤ q.toNat := fun l => by
    rcases Nat.eq_zero_or_pos l.val with h0 | h0
    · obtain rfl : l = 0 := Fin.ext h0
      exact h2
    · exact h3 l (List.mem_filter.mpr ⟨List.mem_finRange _, decide_eq_true ⟨h0, by omega⟩⟩)
  have hex : ∃ l, q = g l := by
    rcases h1 with h | ⟨k, -, h⟩
    · exact ⟨0, h⟩
    · exact ⟨k, h⟩
  obtain ⟨l₀, hl₀⟩ := hex
  have e : IntOp.xori q 2147483648#32 = v14 (lane l₀) := by rw [hl₀]; exact flip_flip _
  refine ⟨⟨l₀, hq.trans e⟩, fun l => ?_⟩
  rw [hq, e]
  have := hle l
  rw [hl₀] at this
  simp only [g] at this
  rw [flip_toNat (hv l₀), flip_toNat (hv l)] at this
  omega

/-! ## The binary search of one lane -/

/-- One lane of the search for the first of `N` keys at least `g`, after `j` steps: `lo < hi`, everything known of the
    keys at the two ends, and the width left. -/
structure Bis (a : ℕ → ℕ) (N g j : ℕ) (lo hi : BitVec 32) : Prop where
  ge : -1 ≤ lo.toInt
  lt : lo.toInt < hi.toInt
  le : hi.toInt ≤ N
  width : hi.toInt - lo.toInt ≤ ((N / 2 ^ j : ℕ) : ℤ) + 1
  low : lo.toInt = -1 ∨ a lo.toInt.toNat < g
  high : hi.toInt = N ∨ g ≤ a hi.toInt.toNat

/-- The probe of a step, as the kernel computes it. -/
abbrev probe (lo hi : BitVec 32) : BitVec 32 := IntOp.maxsi (IntOp.shrsi .vector (IntOp.addi lo hi) 1#32) 0#32

/-- The probe as a number: the middle of the interval, rounded down, or zero if that is negative. -/
theorem toInt_probe {lo hi : BitVec 32} (h1 : -1 ≤ lo.toInt) (h2 : lo.toInt < hi.toInt) (h3 : hi.toInt ≤ 1000000) :
    (probe lo hi).toInt = max ((lo.toInt + hi.toInt) / 2) 0 := by
  have ha : (IntOp.addi lo hi).toInt = lo.toInt + hi.toInt := by
    show (lo + hi).toInt = _
    rw [BitVec.toInt_add, Int.bmod_eq_of_le] <;> omega
  have hs : (IntOp.shrsi .vector (IntOp.addi lo hi) 1#32).toInt = (lo.toInt + hi.toInt) / 2 := by
    show (if (1#32 : BitVec 32).toNat < 32 then (IntOp.addi lo hi).sshiftRight' 1#32 else IntOp.cornerWord .vector .shrsi _ 1#32).toInt = _
    rw [if_pos (by decide), BitVec.sshiftRight', BitVec.toInt_sshiftRight, ha, Int.shiftRight_eq_div_pow]
    rfl
  show (if (0#32 : BitVec 32).slt (IntOp.shrsi .vector (IntOp.addi lo hi) 1#32) then (IntOp.shrsi .vector (IntOp.addi lo hi) 1#32) else 0#32).toInt = _
  have h0 : (0#32 : BitVec 32).toInt = 0 := by decide
  rw [BitVec.slt_eq_decide, h0, hs]
  by_cases hp : 0 < (lo.toInt + hi.toInt) / 2
  · rw [if_pos (decide_eq_true hp), hs]; omega
  · rw [if_neg (by simpa using hp), h0]; omega

/-- A word that reads as `n` with a sign reads as `n` without. -/
theorem toNat_of_toInt {x : BitVec 32} {n : ℕ} (h : x.toInt = n) : x.toNat = n := by
  have := x.isLt
  rw [BitVec.toInt_eq_toNat_cond] at h
  split at h <;> omega

namespace Bis

variable {a : ℕ → ℕ} {N g j : ℕ} {lo hi : BitVec 32}

/-- The search starts from the interval `(-1, 50000)`, which satisfies the invariant. -/
theorem start (hN : N = 50000) : Bis a N g 0 4294967295#32 50000#32 := by
  subst hN
  have e1 : (4294967295#32 : BitVec 32).toInt = -1 := by decide
  have e2 : (50000#32 : BitVec 32).toInt = 50000 := by decide
  constructor <;> simp [e1, e2]

/-- The probe names a key. -/
theorem probe_lt (h : Bis a N g j lo hi) (hN : N = 50000) : (probe lo hi).toNat < N := by
  obtain ⟨h1, h2, h3, -, -, -⟩ := h
  have e := toInt_probe h1 h2 (by omega)
  have : ((probe lo hi).toInt.toNat : ℤ) = (probe lo hi).toInt := by omega
  rw [toNat_of_toInt this.symm]
  omega

/-- A step: the end the probe replaces is chosen by comparing its key with `g`. -/
theorem step (h : Bis a N g j lo hi) (hN : N = 50000) {b : BitVec 1} (hb : b = 1#1 ↔ g ≤ a (probe lo hi).toNat) :
    Bis a N g (j + 1) (Scalar.select b lo (probe lo hi)) (Scalar.select b (probe lo hi) hi) := by
  obtain ⟨h1, h2, h3, h4, h5, h6⟩ := h
  have e := toInt_probe h1 h2 (by omega)
  have e' : ((probe lo hi).toNat : ℤ) = (probe lo hi).toInt := by
    have : ((probe lo hi).toInt.toNat : ℤ) = (probe lo hi).toInt := by omega
    rw [toNat_of_toInt this.symm]; exact this
  have ht : (probe lo hi).toInt.toNat = (probe lo hi).toNat := by omega
  have hw : N / 2 ^ (j + 1) = N / 2 ^ j / 2 := by rw [pow_succ, Nat.div_div_eq_div_mul]
  generalize hp : probe lo hi = p at *
  by_cases hc : b = 1#1
  · have hg := hb.mp hc
    have es : ∀ x y : BitVec 32, Scalar.select b x y = x := fun x y => if_pos hc
    rw [es, es]
    have hlt : lo.toInt < p.toInt := by
      rcases h5 with h5 | h5
      · omega
      · by_contra hcon
        have : p.toInt = lo.toInt := by omega
        rw [← ht, this] at hg
        omega
    refine ⟨h1, hlt, by omega, by rw [hw]; omega, h5, .inr (by rw [ht]; exact hg)⟩
  · have hg : a p.toNat < g := by
      by_contra hcon
      exact hc (hb.mpr (by omega))
    have es : ∀ x y : BitVec 32, Scalar.select b x y = y := fun x y => if_neg hc
    rw [es, es]
    have hlt : p.toInt < hi.toInt := by
      by_contra hcon
      have hh : hi.toInt = 0 ∧ p.toInt = 0 := by omega
      rcases h6 with h6 | h6
      · omega
      · rw [hh.1] at h6
        rw [← ht, hh.2] at hg
        omega
    refine ⟨by omega, hlt, h3, by rw [hw]; omega, .inr (by rw [ht]; exact hg), h6⟩

/-- A finished search on sorted keys ends at the number of keys below `g`. -/
theorem count (h : Bis a N g 16 lo hi) (hN : N = 50000) (hs : ∀ m n, m ≤ n → n < N → a m ≤ a n) :
    hi = BitVec.ofNat 32 ((Finset.range N).filter fun n => a n < g).card := by
  obtain ⟨h1, h2, h3, h4, h5, h6⟩ := h
  have hz : N / 2 ^ 16 = 0 := by rw [hN]; rfl
  rw [hz] at h4
  have hset : ((Finset.range N).filter fun n => a n < g) = Finset.range hi.toInt.toNat := by
    ext n
    rw [Finset.mem_filter, Finset.mem_range, Finset.mem_range]
    constructor
    · rintro ⟨hn, hag⟩
      by_contra hcon
      rcases h6 with h6 | h6
      · omega
      · have := hs hi.toInt.toNat n (by omega) hn
        omega
    · intro hn
      refine ⟨by omega, ?_⟩
      rcases h5 with h5 | h5
      · omega
      · have := hs n lo.toInt.toNat (by omega) (by omega)
        omega
  rw [hset, Finset.card_range]
  apply BitVec.eq_of_toInt_eq
  rw [toInt_small (by omega)]
  omega

end Bis

end Cert.Proof.Words
-- ==== Proof.Loops.lean ====
/-
  The loops of one subcore's run of the counting kernel: for each an invariant, and one trip that keeps it.
-/
module

public import proofs.«01_k».proof.Proof.Words
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Loops

open Cert.KernelIdeal Cert.KernelIdeal.Gen
open Cert.Proof.Words
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The ghost state of the SparseCore launch's handshakes. -/
abbrev UH : Type := URounds (GSem nD τ sig) ℕ
/-- The ghost state of the TensorCore call's block copies. -/
abbrev UP : Type := UR sig nD τ
/-- The ghost state of the whole program. -/
abbrev UU : Type := UH × (UP × Counters)

local notation "𝕄" => MT nD τ sig (HIx 1) (Elt F) ℕ UU ℕ

/-- No call of the program recurses, so no measure is needed. -/
abbrev 𝒱₀ : Variants := Variants.none

/-- The ids in the shared memory. -/
abbrev idsW : Memref sig Kind.scVector Space.hbm S50000 EltTy.i32 := Memref.whole main_arg1_scv
/-- The array of counts in the shared memory. -/
abbrev outW : Memref sig Kind.scVector Space.hbm S50000 EltTy.f32 := Memref.whole main_v0_scv
/-- The subcore's copy of the ids. -/
abbrev s0 : Memref sig Kind.scVector Space.vmem S50000 EltTy.i32 := Memref.whole cc0_scratch0
/-- The subcore's table of lower bounds: for a bin, the number of ids below it. -/
abbrev s1 : Memref sig Kind.scVector Space.vmem S288 EltTy.i32 := Memref.whole cc0_scratch1
/-- The subcore's table of counts: for a bin, the number of ids in it. -/
abbrev s2 : Memref sig Kind.scVector Space.vmem S288 EltTy.f32 := Memref.whole cc0_scratch2
/-- The subcore's rows of the result, before they are copied out. -/
abbrev s3 : Memref sig Kind.scVector Space.vmem S3136 EltTy.f32 := Memref.whole cc0_scratch3

/-- The SparseCore of a grid point. -/
abbrev cV (L : grid0.Coords) : Fin τ.nSC := (L 0).castLE hcore0
/-- The subcore of a grid point. -/
abbrev jV (L : grid0.Coords) : Fin τ.nSub := (L 1).castLE hsub0
/-- The subcore that runs a grid point. -/
abbrev thr (d : Dev nD) (L : grid0.Coords) : Thread nD τ := V d (cV L) (jV L)

variable [FloatOps F]

/-- The `n`-th id, as a number. -/
def key (ids : S50000.Idx → BitVec 32) (n : ℕ) : ℕ := if h : n < 50000 then (ids (Shape.ofLane ⟨n, h⟩)).toNat else 0
/-- The number of ids below `g`. -/
def nLT (ids : S50000.Idx → BitVec 32) (g : ℕ) : ℕ := ((Finset.range 50000).filter fun n => key ids n < g).card
/-- The ids ascend. -/
def Sorted (ids : S50000.Idx → BitVec 32) : Prop := ∀ a b, a ≤ b → b < 50000 → key ids a ≤ key ids b
/-- Every id is below 256. -/
def Small (ids : S50000.Idx → BitVec 32) : Prop := ∀ x, (ids x).toNat < 256

variable (d : Dev nD) (L : grid0.Coords)

/-- The subcore's own memory holds its copy of the ids. -/
abbrev idsPts (ids : S50000.Idx → BitVec 32) : sProp 𝕄 := (s0).view.loc (thr d L) ↦{fullShare} (ids : Buf (Elt F) ((s0).view.loc (thr d L)))

/-- After `k` steps of the search in chunk `c`, each lane's interval satisfies the invariant of the binary search for
    its bin. -/
def inv2 (ids : S50000.Idx → BitVec 32) (c : ℕ) (k : ℕ) (lh : IVec S16 32 × IVec S16 32) : sProp 𝕄 :=
  iprop(idsPts (F := F) d L ids ∗ ⌜∀ l : Fin 16, Bis (key ids) 50000 (16 * c + l.val) k (lh.1 (lane l)) (lh.2 (lane l))⌝)

/-- Sixteen words stored at word `o` of a one-axis buffer, newest of a list of stores: read at word `p`. -/
theorem read_store {κ : Kind} {sp : Space} {n : ℕ} {e : EltTy} (v : View sig κ sp ⟨1, ![n]⟩ e) (f : v.ty.Contents (Elt F)) (off : Fin 1 → ℕ) (o : ℕ)
    (ho : off = ![o]) (inb : ∀ a, off a + S16.size a ≤ (⟨1, ![n]⟩ : Shape).size a) (w : S16.Idx → Elt F e) (R : List (View.Piece (Elt F) ⟨1, ![n]⟩ e)) (p : Fin n) :
    v.read (Elt F) (v.writes (Elt F) f (⟨Rect.unit (s := ⟨1, ![n]⟩) off S16.size inb, w⟩ :: R)) (Shape.ofLane (d := ![n]) p)
      = if h : o ≤ p.val ∧ p.val < o + 16 then w (lane ⟨p.val - o, by omega⟩) else v.read (Elt F) (v.writes (Elt F) f R) (Shape.ofLane (d := ![n]) p) := by
  subst ho
  split
  · rename_i h
    refine View.read_writes_cons_hit_of_coords v f (Rect.unit (s := ⟨1, ![n]⟩) ![o] S16.size inb) w R (lane ⟨p.val - o, by omega⟩) _ fun a => ?_
    obtain rfl : a = 0 := Subsingleton.elim _ _
    show p.val = o + 1 * (p.val - o)
    omega
  · rename_i h
    refine View.read_writes_cons_miss_of_axis v f _ R _ 0 o 16 rfl rfl rfl ?_
    show p.val < o ∨ o + 16 ≤ p.val
    omega

omit [FloatOps F] in
/-- A gather's operand, a buffer whole, reads as its contents. -/
theorem whole_read {κ : Kind} (b : Ref sig κ) (f : b.ty.Contents (Elt F)) :
    ((Memref.whole b).access (.whole b.ty.shape)).read (Elt F) f = f := by
  funext x
  show f ((Rect.whole b.ty.shape).emb x) = f x
  rw [Rect.emb_whole_apply]

/-- A truth value as a bit is one exactly if it is true. -/
theorem ofBool_iff (p : Bool) : BitVec.ofBool p = 1#1 ↔ p = true := by cases p <;> decide

/-- One lane's comparison: the fetched id against the bin the lane looks for. -/
theorem pay8_iff (v4 : Vec F S16 .i32) (v10 v20 : BitVec 32) (h1 : v10.toNat < 256) (h2 : v20.toNat < 256)
    (e10 : extractAt ![15] (k0_pay3 v4) inpos_S16_p15 = v10) (t : Fin (k0_t1_loop v10 v20).trips) (v58 : Vec F S16 .i32) (l : Fin 16)
    (h : (v58 (lane l)).toNat < 256) :
    k0_pay8 v4 v10 v20 t v58 (lane l) = 1#1 ↔ 16 * (cLo v10 + t.val) + l.val ≤ (v58 (lane l)).toNat := by
  have ht := t1_lt h1 h2 t
  have hb := cHi_le h2
  have e : k0_pay8 v4 v10 v20 t v58 (lane l)
      = IntOp.cmpi .sge (v58 (lane l)) (Scalar.muli (Scf.iv (Scalar.shrui (extractAt ![15] (k0_pay3 v4) inpos_S16_p15) 4#32) 1#32 t) 16#32 + BitVec.ofNat 32 l.val) := by
    unfold k0_pay8
    rw [show BitVec.ofNat 32 l.val = iota .scVector S16 32 [0] iota_S16_d0_w32_scVector (lane l) from by
      show _ = BitVec.ofNat 32 (0 * 16 + l.val)
      rw [Nat.zero_mul, Nat.zero_add]]
    rfl
  rw [e, e10, chunk_off t.val (by omega), ← BitVec.ofNat_add]
  rw [IntOp.cmpi, ofBool_iff, BitVec.sle_eq_decide, decide_eq_true_eq, toInt_small (by omega), BitVec.toInt_eq_toNat_cond]
  split <;> omega

/-- One step of the search in a chunk keeps the invariant: the lanes fetch the ids at their probes and halve their
    intervals. -/
theorem t2_trip (ids : S50000.Idx → BitVec 32) (hs : Small ids) (v4 : Vec F S16 .i32) (v10 v20 : BitVec 32) (h1 : v10.toNat < 256) (h2 : v20.toNat < 256)
    (e10 : extractAt ![15] (k0_pay3 v4) inpos_S16_p15 = v10) (t : Fin (k0_t1_loop v10 v20).trips) (k : Fin k0_t2_loop.trips) (lh : IVec S16 32 × IVec S16 32) :
    inv2 (F := F) d L ids (cLo v10 + t.val) k lh
      ⊢ wp frame (wpE (defs₀ (F := F)) 𝒱₀ (thr d L) none) Set.univ
        (k0_t2_body L idsW (Memref.isWhole_whole _) outW (Memref.isWhole_whole _) s0 (Memref.isWhole_whole _) s1 (Memref.isWhole_whole _) s2 (Memref.isWhole_whole _) s3 (Memref.isWhole_whole _) cc0_scoped0 cc0_scoped1 cc0_scoped2 v4 v10 v20 t k lh)
        (inv2 (F := F) d L ids (cLo v10 + t.val) (k.val + 1)) := by
  obtain ⟨lo, hi⟩ := lh
  unfold k0_t2_body inv2
  iintro ⟨Hi, %hb⟩
  have hlt : ∀ x : S16.Idx, ((k0_pay7 lo hi) x).toNat < 50000 := fun x => by
    obtain ⟨l, rfl⟩ := lane_surj x
    exact (hb l).probe_lt rfl
  have hchk : k0_chk2 (k0_pay7 lo hi) := fun a x => by
    obtain rfl : a = 0 := Subsingleton.elim _ _
    exact hlt x
  sl_exec
  iapply (SparseCore.wp_vectorLoadIdx 𝒱₀ (thr d L) none Set.univ (base := s0) (S := Finset.univ) (q := fullShare) (Finset.subset_univ _)) $$ Hi
  iintro Hi
  sl_step
  isplitl [Hi]; · iexact Hi
  ipureintro
  intro l
  refine (hb l).step rfl ?_
  rw [show (s0.access (.whole S50000)).read (Elt F) ids = ids from whole_read (F := F) cc0_scratch0 ids]
  let w : Vec F S16 .i32 := loadIdx (s := S50000) (ids : Vec F S50000 .i32) ![k0_pay7 lo hi] (k0_idx1_inb (k0_pay7 lo hi) hchk)
  have e : key ids (probe (lo (lane l)) (hi (lane l))).toNat = BitVec.toNat (w (lane l)) := by
    unfold key
    rw [dif_pos ((hb l).probe_lt rfl)]
    refine congrArg (fun x => (ids x).toNat) (funext fun a => ?_)
    obtain rfl : a = 0 := Subsingleton.elim _ _
    rfl
  rw [e]
  exact pay8_iff v4 v10 v20 h1 h2 e10 t w l (hs _)

/-- After `k` chunks from chunk `c` on, the bins of those chunks hold the number of ids below them, if the ids are
    sorted. -/
def inv1 (ids : S50000.Idx → BitVec 32) (c : ℕ) (k : ℕ) (_ : Unit) : sProp 𝕄 :=
  iprop(idsPts (F := F) d L ids ∗ ∃ f : S288.Idx → BitVec 32, ((s1).view.loc (thr d L) ↦{fullShare} (f : Buf (Elt F) ((s1).view.loc (thr d L))))
    ∗ ⌜Sorted ids → ∀ p : Fin 288, 16 * c ≤ p.val → p.val < 16 * (c + k) → f (Shape.ofLane p) = BitVec.ofNat 32 (nLT ids p.val)⌝)

/-- One chunk of the search loop: the binary search runs and its upper ends are stored at the chunk. -/
theorem t1_trip (ids : S50000.Idx → BitVec 32) (hs : Small ids) (v4 : Vec F S16 .i32) (v10 v20 : BitVec 32) (h1 : v10.toNat < 256) (h2 : v20.toNat < 256)
    (hw : k0_chk1 v10 v20)
    (e10 : extractAt ![15] (k0_pay3 v4) inpos_S16_p15 = v10) (t : Fin (k0_t1_loop v10 v20).trips) (u : Unit) :
    inv1 (F := F) d L ids (cLo v10) t.val u
      ⊢ wp frame (wpE (defs₀ (F := F)) 𝒱₀ (thr d L) none) Set.univ
        (k0_t1_body L idsW (Memref.isWhole_whole _) outW (Memref.isWhole_whole _) s0 (Memref.isWhole_whole _) s1 (Memref.isWhole_whole _) s2 (Memref.isWhole_whole _) s3 (Memref.isWhole_whole _) cc0_scoped0 cc0_scoped1 cc0_scoped2 v4 v10 v20 hw t u)
        (inv1 (F := F) d L ids (cLo v10) (t.val + 1)) := by
  unfold k0_t1_body inv1
  iintro ⟨Hi, %f, Hf, %hf⟩
  sl_for (inv2 (F := F) d L ids (cLo v10 + t.val)) $$ [Hi]
  case region => exact fun k acc => t2_trip d L ids hs v4 v10 v20 h1 h2 e10 t k acc
  · unfold inv2
    isplitl [Hi]; · iexact Hi
    ipureintro; exact fun l => Bis.start rfl
  unfold inv2
  iintro %lh ⟨Hi, %hb⟩
  obtain ⟨lo, hi⟩ := lh
  sl_exec
  sl_step
  isplitl [Hi]; · iexact Hi
  iexists _
  isplitl [Hf]; · iexact Hf
  ipureintro
  intro hsort p hp hp'
  have hr := read_store (F := F) (n := 288) (s1).view f _ _ (off3_eq h1 h2 t) (k0_off3_inb v10 v20 hw t) hi [] p
  refine hr.trans ?_
  split
  · rename_i hin
    refine ((hb ⟨p.val - 16 * (cLo v10 + t.val), by omega⟩).count rfl hsort).trans ?_
    show BitVec.ofNat 32 (nLT ids _) = _
    congr 2
    show 16 * (cLo v10 + t.val) + (p.val - 16 * (cLo v10 + t.val)) = p.val
    omega
  · exact hf hsort p hp (by omega)

/-- Sixteen words loaded from word `o` of a one-axis buffer. -/
theorem read_load {κ : Kind} {sp : Space} {n : ℕ} {e : EltTy} (v : View sig κ sp ⟨1, ![n]⟩ e) (f : v.ty.Contents (Elt F)) (off : Fin 1 → ℕ) (o : ℕ)
    (ho : off = ![o]) (inb : ∀ a, off a + S16.size a ≤ (⟨1, ![n]⟩ : Shape).size a) (l : Fin 16) (p : Fin n) (hp : p.val = o + l.val) :
    v.readAt (Elt F) (Rect.unit (s := ⟨1, ![n]⟩) off S16.size inb).toLoadRect f (lane l) = v.read (Elt F) f (Shape.ofLane (d := ![n]) p) := by
  subst ho
  rw [View.readAt_apply]
  congr 1
  funext a
  obtain rfl : a = 0 := Subsingleton.elim _ _
  refine Fin.ext ?_
  show o + 1 * l.val = p.val
  omega

/-- The number of ids equal to `g`, as the kernel converts it. -/
def cntG (ids : S50000.Idx → BitVec 32) (g : ℕ) : F .f32 :=
  FloatOps.sitofp .f32 (BitVec.ofNat 32 ((Finset.range 50000).filter fun a => key ids a = g).card)

/-- The numbers below `N` with a value below `g + 1` are those with one below `g` and those with `g`. -/
theorem card_succ (N : ℕ) (a : ℕ → ℕ) (g : ℕ) :
    ((Finset.range N).filter fun n => a n < g + 1).card
      = ((Finset.range N).filter fun n => a n < g).card + ((Finset.range N).filter fun n => a n = g).card := by
  rw [← Finset.card_union_of_disjoint (Finset.disjoint_filter.mpr fun n _ h1 h2 => by omega)]
  congr 1
  ext n
  simp only [Finset.mem_union, Finset.mem_filter]
  constructor
  · rintro ⟨h, h'⟩
    rcases Nat.lt_succ_iff_lt_or_eq.mp h' with h' | h'
    · exact .inl ⟨h, h'⟩
    · exact .inr ⟨h, h'⟩
  · rintro (⟨h, h'⟩ | ⟨h, h'⟩) <;> exact ⟨h, by omega⟩

/-- After `k` chunks from chunk `c` on, the bins of those chunks hold the number of ids equal to them, if the ids are
    sorted. -/
def inv5 (ids : S50000.Idx → BitVec 32) (f : S288.Idx → BitVec 32) (c : ℕ) (k : ℕ) (_ : Unit) : sProp 𝕄 :=
  iprop(((s1).view.loc (thr d L) ↦{fullShare} (f : Buf (Elt F) ((s1).view.loc (thr d L))))
    ∗ ∃ h : S288.Idx → F .f32, ((s2).view.loc (thr d L) ↦{fullShare} (h : Buf (Elt F) ((s2).view.loc (thr d L))))
    ∗ ⌜Sorted ids → ∀ p : Fin 288, 16 * c ≤ p.val → p.val < 16 * (c + k) → h (Shape.ofLane p) = cntG ids p.val⌝)

/-- One chunk of the difference loop: the bounds of the next bins less those of the chunk's bins are the chunk's
    counts. -/
theorem t5_trip (ids : S50000.Idx → BitVec 32) (f : S288.Idx → BitVec 32) (v10 v20 : BitVec 32) (h1 : v10.toNat < 256) (h2 : v20.toNat < 256)
    (hw : k0_chk1 v10 v20)
    (hf : Sorted ids → ∀ p : Fin 288, 16 * cLo v10 ≤ p.val → p.val < 16 * (cHi v20 + 2) → f (Shape.ofLane p) = BitVec.ofNat 32 (nLT ids p.val))
    (t : Fin (k0_t5_loop v10 v20).trips) (u : Unit) :
    inv5 (F := F) d L ids f (cLo v10) t.val u
      ⊢ wp frame (wpE (defs₀ (F := F)) 𝒱₀ (thr d L) none) Set.univ
        (k0_t5_body L idsW (Memref.isWhole_whole _) outW (Memref.isWhole_whole _) s0 (Memref.isWhole_whole _) s1 (Memref.isWhole_whole _) s2 (Memref.isWhole_whole _) s3 (Memref.isWhole_whole _) cc0_scoped0 cc0_scoped1 cc0_scoped2 v10 v20 hw t u)
        (inv5 (F := F) d L ids f (cLo v10) (t.val + 1)) := by
  have ht := t5_lt h1 h2 t
  have hb := cHi_le h2
  unfold k0_t5_body inv5
  iintro ⟨Hf, %h, Hh, %hh⟩
  sl_exec
  sl_step
  isplitl [Hf]; · iexact Hf
  iexists _
  isplitl [Hh]; · iexact Hh
  ipureintro
  intro hsort p hp hp'
  refine (read_store (F := F) (n := 288) (s2).view h _ _ (off5_eq h1 h2 t) (k0_off5_inb v10 v20 hw t) _ [] p).trans ?_
  split
  · rename_i hin
    refine congrArg (FloatOps.sitofp (F := F) .f32 (w := 32)) (?_ : (_ : BitVec 32) = _)
    have e1 := read_load (F := F) (n := 288) (s1).view f _ _ (off5_eq h1 h2 t) (k0_off5_inb v10 v20 hw t) ⟨p.val - 16 * (cLo v10 + t.val), by omega⟩ p (by show p.val = _ + (p.val - _); omega)
    have e2 := read_load (F := F) (n := 288) (s1).view f _ _ (off6_eq h1 h2 t) (k0_off6_inb v10 v20 hw t) ⟨p.val - 16 * (cLo v10 + t.val), by omega⟩ ⟨p.val + 1, by omega⟩ (by show p.val + 1 = _ + (p.val - _); omega)
    refine (congrArg₂ (fun a b : BitVec 32 => b - a) (e1.trans (hf hsort p hp (by omega))) (e2.trans (hf hsort ⟨p.val + 1, by omega⟩ (by show _ ≤ p.val + 1; omega) (by show p.val + 1 < _; omega)))).trans ?_
    show BitVec.ofNat 32 (nLT ids (p.val + 1)) - BitVec.ofNat 32 (nLT ids p.val) = _
    rw [show nLT ids (p.val + 1) = nLT ids p.val + _ from card_succ 50000 (key ids) p.val, BitVec.ofNat_add, BitVec.add_comm, BitVec.add_sub_cancel]
  · exact hh hsort p hp (by omega)

/-- A gather of the histogram at sixteen ids, one lane. -/
theorem gather_val (ids : S50000.Idx → BitVec 32) (h : S288.Idx → F .f32) (off : Fin 1 → ℕ) (o : ℕ) (ho : off = ![o])
    (inb : ∀ a, off a + S16.size a ≤ S50000.size a) (hx) (l : Fin 16) (n : ℕ) (hn : o + l.val = n)
    (hh : ∀ q : Fin 288, q.val = key ids n → h (Shape.ofLane q) = cntG ids q.val) :
    loadIdx (s := S288) (((s2).access (.whole S288)).read (Elt F) h)
      ![(s0).view.readAt (Elt F) (Rect.unit (s := S50000) off S16.size inb).toLoadRect ids] hx (lane l) = cntG ids (key ids n) := by
  subst hn
  have hl : o + l.val < 50000 := by
    subst ho
    have : o + 16 ≤ 50000 := inb 0
    omega
  have e := read_load (F := F) (n := 50000) (s0).view ids off o ho inb l ⟨o + l.val, hl⟩ rfl
  have ek : key ids (o + l.val) = BitVec.toNat (w := 32) ((s0).view.readAt (Elt F) (Rect.unit (s := S50000) off S16.size inb).toLoadRect ids (lane l)) := by
    rw [e]; unfold key; rw [dif_pos hl]; rfl
  have := hh ⟨key ids (o + l.val), by rw [ek]; exact hx 0 (lane l)⟩ rfl
  refine Eq.trans ?_ this
  refine (congrFun (whole_read (F := F) cc0_scratch2 h) _).trans (congrArg h (funext fun a => ?_))
  obtain rfl : a = 0 := Subsingleton.elim _ _
  exact Fin.ext ek.symm

/-- After `k` trips, the first `64 * k` rows of the subcore's result hold the counts of their ids, if the ids are
    sorted. -/
def inv7 (ids : S50000.Idx → BitVec 32) (h : S288.Idx → F .f32) (base k : ℕ) (_ : Unit) : sProp 𝕄 :=
  iprop(idsPts (F := F) d L ids ∗ ((s2).view.loc (thr d L) ↦{fullShare} (h : Buf (Elt F) ((s2).view.loc (thr d L))))
    ∗ ∃ f : S3136.Idx → F .f32, ((s3).view.loc (thr d L) ↦{fullShare} (f : Buf (Elt F) ((s3).view.loc (thr d L))))
    ∗ ⌜Sorted ids → ∀ p : Fin 3136, p.val < 64 * k → f (Shape.ofLane p) = cntG ids (key ids (base + p.val))⌝)

/-- Every lane of a load of the ids is a bin of the histogram. -/
theorem load_small (ids : S50000.Idx → BitVec 32) (hs : Small ids) (off : Fin 1 → ℕ) (inb : ∀ a, off a + S16.size a ≤ S50000.size a) (a : Fin 1) (x : S16.Idx) :
    ((![(s0).view.readAt (Elt F) (Rect.unit (s := S50000) off S16.size inb).toLoadRect ids] : Fin 1 → IVec S16 32) a x).toNat < S288.size a := by
  obtain rfl : a = 0 := Subsingleton.elim _ _
  exact lt_trans (hs _) (show 256 < 288 by decide)

/-- One trip of the row loop of the subcores before the last: 64 more rows are filled. -/
theorem t7_trip (ids : S50000.Idx → BitVec 32) (hs : Small ids) (h : S288.Idx → F .f32) (h1 : k0_cond1 L = 1#1)
    (hh : Sorted ids → ∀ n, 3136 * (L 1).val ≤ n → n < 3136 * (L 1).val + 3136 → ∀ q : Fin 288, q.val = key ids n → h (Shape.ofLane q) = cntG ids q.val)
    (t : Fin k0_t7_loop.trips) (u : Unit) :
    inv7 (F := F) d L ids h (3136 * (L 1).val) t.val u
      ⊢ wp frame (wpE (defs₀ (F := F)) 𝒱₀ (thr d L) none) Set.univ
        (k0_t7_body L idsW (Memref.isWhole_whole _) outW (Memref.isWhole_whole _) s0 (Memref.isWhole_whole _) s1 (Memref.isWhole_whole _) s2 (Memref.isWhole_whole _) s3 (Memref.isWhole_whole _) cc0_scoped0 cc0_scoped1 cc0_scoped2 h1 t u)
        (inv7 (F := F) d L ids h (3136 * (L 1).val) (t.val + 1)) := by
  have ht : t.val < 49 := lt_of_lt_of_le t.isLt k0_t7_abs.2.1
  have c4 : k0_chk4 L (View.readAt (Elt F) (s0).view (Rect.unit (s := S50000) (k0_off9 L t) S16.size (k0_off9_inb L t h1)).toLoadRect ids) := fun _ => load_small ids hs _ _
  have c5 : k0_chk5 L (View.readAt (Elt F) (s0).view (Rect.unit (s := S50000) (k0_off11 L t) S16.size (k0_off11_inb L t h1)).toLoadRect ids) := fun _ => load_small ids hs _ _
  have c6 : k0_chk6 L (View.readAt (Elt F) (s0).view (Rect.unit (s := S50000) (k0_off13 L t) S16.size (k0_off13_inb L t h1)).toLoadRect ids) := fun _ => load_small ids hs _ _
  have c7 : k0_chk7 L (View.readAt (Elt F) (s0).view (Rect.unit (s := S50000) (k0_off15 L t) S16.size (k0_off15_inb L t h1)).toLoadRect ids) := fun _ => load_small ids hs _ _
  unfold k0_t7_body inv7
  iintro ⟨Hi, Hh, %f, Hf, %hf⟩
  sl_exec
  iapply (SparseCore.wp_vectorLoadIdx 𝒱₀ (thr d L) none Set.univ (base := s2) (S := Finset.univ) (q := fullShare) (Finset.subset_univ _)) $$ Hh
  iintro Hh
  sl_exec
  iapply (SparseCore.wp_vectorLoadIdx 𝒱₀ (thr d L) none Set.univ (base := s2) (S := Finset.univ) (q := fullShare) (Finset.subset_univ _)) $$ Hh
  iintro Hh
  sl_exec
  iapply (SparseCore.wp_vectorLoadIdx 𝒱₀ (thr d L) none Set.univ (base := s2) (S := Finset.univ) (q := fullShare) (Finset.subset_univ _)) $$ Hh
  iintro Hh
  sl_exec
  iapply (SparseCore.wp_vectorLoadIdx 𝒱₀ (thr d L) none Set.univ (base := s2) (S := Finset.univ) (q := fullShare) (Finset.subset_univ _)) $$ Hh
  iintro Hh
  sl_exec
  sl_step
  isplitl [Hi]; · iexact Hi
  isplitl [Hh]; · iexact Hh
  iexists _
  isplitl [Hf]; · iexact Hf
  ipureintro
  intro hsort p hp
  refine (read_store (F := F) (n := 3136) (s3).view f _ _ (k0_off16_eq t) (k0_off16_inb L t h1) _ _ p).trans ?_
  split
  · exact gather_val ids h _ _ (k0_off15_eq L t) _ _ _ _ (by show _ + (p.val - _) = _; omega) (hh hsort _ (by omega) (by omega))
  refine (read_store (F := F) (n := 3136) (s3).view f _ _ (k0_off14_eq t) (k0_off14_inb L t h1) _ _ p).trans ?_
  split
  · exact gather_val ids h _ _ (k0_off13_eq L t) _ _ _ _ (by show _ + (p.val - _) = _; omega) (hh hsort _ (by omega) (by omega))
  refine (read_store (F := F) (n := 3136) (s3).view f _ _ (k0_off12_eq t) (k0_off12_inb L t h1) _ _ p).trans ?_
  split
  · exact gather_val ids h _ _ (k0_off11_eq L t) _ _ _ _ (by show _ + (p.val - _) = _; omega) (hh hsort _ (by omega) (by omega))
  refine (read_store (F := F) (n := 3136) (s3).view f _ _ (k0_off10_eq t) (k0_off10_inb L t h1) _ _ p).trans ?_
  split
  · exact gather_val ids h _ _ (k0_off9_eq L t) _ _ _ _ (by show _ + (p.val - _) = _; omega) (hh hsort _ (by omega) (by omega))
  exact hf hsort p (by omega)

/-- One trip of the last subcore's row loop: 64 more rows are filled. -/
theorem t8_trip (ids : S50000.Idx → BitVec 32) (hs : Small ids) (h : S288.Idx → F .f32) (h2 : k0_cond2 L = 1#1)
    (hh : Sorted ids → ∀ n, 3136 * (L 1).val ≤ n → n < 3136 * (L 1).val + 2960 → ∀ q : Fin 288, q.val = key ids n → h (Shape.ofLane q) = cntG ids q.val)
    (t : Fin k0_t8_loop.trips) (u : Unit) :
    inv7 (F := F) d L ids h (3136 * (L 1).val) t.val u
      ⊢ wp frame (wpE (defs₀ (F := F)) 𝒱₀ (thr d L) none) Set.univ
        (k0_t8_body L idsW (Memref.isWhole_whole _) outW (Memref.isWhole_whole _) s0 (Memref.isWhole_whole _) s1 (Memref.isWhole_whole _) s2 (Memref.isWhole_whole _) s3 (Memref.isWhole_whole _) cc0_scoped0 cc0_scoped1 cc0_scoped2 h2 t u)
        (inv7 (F := F) d L ids h (3136 * (L 1).val) (t.val + 1)) := by
  have ht : t.val < 46 := lt_of_lt_of_le t.isLt k0_t8_abs.2.1
  have c8 : k0_chk8 L (View.readAt (Elt F) (s0).view (Rect.unit (s := S50000) (k0_off18 L t) S16.size (k0_off18_inb L t h2)).toLoadRect ids) := fun _ => load_small ids hs _ _
  have c9 : k0_chk9 L (View.readAt (Elt F) (s0).view (Rect.unit (s := S50000) (k0_off20 L t) S16.size (k0_off20_inb L t h2)).toLoadRect ids) := fun _ => load_small ids hs _ _
  have c10 : k0_chk10 L (View.readAt (Elt F) (s0).view (Rect.unit (s := S50000) (k0_off22 L t) S16.size (k0_off22_inb L t h2)).toLoadRect ids) := fun _ => load_small ids hs _ _
  have c11 : k0_chk11 L (View.readAt (Elt F) (s0).view (Rect.unit (s := S50000) (k0_off24 L t) S16.size (k0_off24_inb L t h2)).toLoadRect ids) := fun _ => load_small ids hs _ _
  unfold k0_t8_body inv7
  iintro ⟨Hi, Hh, %f, Hf, %hf⟩
  sl_exec
  iapply (SparseCore.wp_vectorLoadIdx 𝒱₀ (thr d L) none Set.univ (base := s2) (S := Finset.univ) (q := fullShare) (Finset.subset_univ _)) $$ Hh
  iintro Hh
  sl_exec
  iapply (SparseCore.wp_vectorLoadIdx 𝒱₀ (thr d L) none Set.univ (base := s2) (S := Finset.univ) (q := fullShare) (Finset.subset_univ _)) $$ Hh
  iintro Hh
  sl_exec
  iapply (SparseCore.wp_vectorLoadIdx 𝒱₀ (thr d L) none Set.univ (base := s2) (S := Finset.univ) (q := fullShare) (Finset.subset_univ _)) $$ Hh
  iintro Hh
  sl_exec
  iapply (SparseCore.wp_vectorLoadIdx 𝒱₀ (thr d L) none Set.univ (base := s2) (S := Finset.univ) (q := fullShare) (Finset.subset_univ _)) $$ Hh
  iintro Hh
  sl_exec
  sl_step
  isplitl [Hi]; · iexact Hi
  isplitl [Hh]; · iexact Hh
  iexists _
  isplitl [Hf]; · iexact Hf
  ipureintro
  intro hsort p hp
  refine (read_store (F := F) (n := 3136) (s3).view f _ _ (k0_off25_eq t) (k0_off25_inb L t h2) _ _ p).trans ?_
  split
  · exact gather_val ids h _ _ (k0_off24_eq L t) _ _ _ _ (by show _ + (p.val - _) = _; omega) (hh hsort _ (by omega) (by omega))
  refine (read_store (F := F) (n := 3136) (s3).view f _ _ (k0_off23_eq t) (k0_off23_inb L t h2) _ _ p).trans ?_
  split
  · exact gather_val ids h _ _ (k0_off22_eq L t) _ _ _ _ (by show _ + (p.val - _) = _; omega) (hh hsort _ (by omega) (by omega))
  refine (read_store (F := F) (n := 3136) (s3).view f _ _ (k0_off21_eq t) (k0_off21_inb L t h2) _ _ p).trans ?_
  split
  · exact gather_val ids h _ _ (k0_off20_eq L t) _ _ _ _ (by show _ + (p.val - _) = _; omega) (hh hsort _ (by omega) (by omega))
  refine (read_store (F := F) (n := 3136) (s3).view f _ _ (k0_off19_eq t) (k0_off19_inb L t h2) _ _ p).trans ?_
  split
  · exact gather_val ids h _ _ (k0_off18_eq L t) _ _ _ _ (by show _ + (p.val - _) = _; omega) (hh hsort _ (by omega) (by omega))
  exact hf hsort p (by omega)

end Cert.Proof.Loops
-- ==== Proof.Tile.lean ====
/-
  One vector subcore's run of the counting kernel, from its share of the ids and its rows of the result to those rows
  filled: row `n` of the filled rows is the number of ids equal to the `n`-th id, converted, if the ids are sorted.
-/
module

public import proofs.«01_k».proof.Proof.Loops

@[expose] public section

noncomputable section

namespace Cert.Proof.Tile

open Cert.KernelIdeal Cert.KernelIdeal.Gen
open Cert.Proof.Words Cert.Proof.Loops
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch sees it -/

/-- The labels of the program with its TensorCore call. -/
abbrev ΛP : Labels := Pipeline.Sig Λ₀ (Fin 1) fun p => (pcfgs (F := F) p).Adm
/-- The program's SparseCore launch. -/
abbrev K : SparseCore.Cfg τ sig (ΛP (F := F)) 1 := sc (F := F)
/-- The program's definitions, those of its TensorCore call among them. -/
abbrev D [FloatOps F] : Defs nD τ sig (Elt F) (ΛP (F := F)) := Pipeline.defs pcfgs defs₀
/-- The measures, over the labels of the whole program. -/
abbrev 𝒱 : Variants := 𝒱₀.lift
/-- The measure at the start of a subcore's run. -/
abbrev v₀ : 𝒱.V := Sum.inl none

/-- The launch's semaphores are four distinct unscoped ones, and no buffer of the SparseCores is shared by tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A subcore's rows of the result -/

/-- The rows of the result that subcore `w` writes: 3136 from `3136 * w`, as far as the array goes. -/
def rows (w : ℕ) : Finset S50000.Idx := Finset.univ.filter fun x => (x 0).val / 3136 = w

/-- The first branch is taken by subcores before the last. -/
theorem cond1_lt (L : grid0.Coords) (h : k0_cond1 L = 1#1) : (L 1).val < 15 := by
  revert h; unfold k0_cond1; generalize L 1 = w; revert w; decide +kernel

/-- The second branch is taken by the last subcore. -/
theorem cond2_eq (L : grid0.Coords) (h : k0_cond2 L = 1#1) : (L 1).val = 15 := by
  revert h; unfold k0_cond2; generalize L 1 = w; revert w; decide +kernel

/-- Every subcore takes exactly one of the two branches. -/
theorem cond_or (L : grid0.Coords) : (k0_cond1 L = 1#1 ∧ ¬ k0_cond2 L = 1#1) ∨ (¬ k0_cond1 L = 1#1 ∧ k0_cond2 L = 1#1) := by
  unfold k0_cond1 k0_cond2; generalize L 1 = w; revert w; decide +kernel

variable [FloatOps F] (d : Dev nD) (L : grid0.Coords)

/-- The 3136 rows of the result that a subcore before the last copies out to. -/
abbrev outA (h1 : k0_cond1 L = 1#1) : Memref sig .scVector .hbm S3136 .f32 :=
  outW.slice (Rect.unit (s := S50000) (k0_off17 L) S3136.size (k0_off17_inb L h1)) (fun _ => rfl)
/-- The 2960 rows of the result that the last subcore copies out to. -/
abbrev outB (h2 : k0_cond2 L = 1#1) : Memref sig .scVector .hbm S2960 .f32 :=
  outW.slice (Rect.unit (s := S50000) (k0_off27 L) S2960.size (k0_off27_inb L h2)) (fun _ => rfl)
/-- The part of the subcore's memory that the last subcore copies out of. -/
abbrev s3B : Memref sig .scVector .vmem S2960 .f32 :=
  s3.slice (Rect.unit (s := S3136) ![0] S2960.size inb_S3136_S2960_0) (fun _ => rfl)

/-- A subcore before the last copies out to its rows exactly. -/
theorem outA_set (h1 : k0_cond1 L = 1#1) : (outA L h1).view.set = rows (L 1).val := by
  have hw := cond1_lt L h1
  refine (View.set_slice_whole main_v0_scv _).trans ?_
  ext x
  have hx : (x 0).val < 50000 := (x 0).isLt
  rw [Rect.mem_set_unit]
  unfold rows
  rw [Finset.mem_filter]
  refine ⟨fun h => ⟨Finset.mem_univ _, ?_⟩, fun h a => ?_⟩
  · have := h 0
    rw [k0_off17_eq] at this
    have h1 : 3136 * (L 1).val ≤ (x 0).val ∧ (x 0).val < 3136 * (L 1).val + 3136 := this
    omega
  · obtain rfl : a = (0 : Fin 1) := Subsingleton.elim (α := Fin 1) _ _
    rw [k0_off17_eq]
    show 3136 * (L 1).val ≤ (x 0).val ∧ (x 0).val < 3136 * (L 1).val + 3136
    have := h.2
    omega

/-- The last subcore copies out to its rows exactly. -/
theorem outB_set (h2 : k0_cond2 L = 1#1) : (outB L h2).view.set = rows (L 1).val := by
  have hw := cond2_eq L h2
  refine (View.set_slice_whole main_v0_scv _).trans ?_
  ext x
  have hx : (x 0).val < 50000 := (x 0).isLt
  rw [Rect.mem_set_unit]
  unfold rows
  rw [Finset.mem_filter]
  refine ⟨fun h => ⟨Finset.mem_univ _, ?_⟩, fun h a => ?_⟩
  · have := h 0
    rw [k0_off27_eq] at this
    have h1 : 3136 * (L 1).val ≤ (x 0).val ∧ (x 0).val < 3136 * (L 1).val + 2960 := this
    omega
  · obtain rfl : a = (0 : Fin 1) := Subsingleton.elim (α := Fin 1) _ _
    rw [k0_off27_eq]
    show 3136 * (L 1).val ≤ (x 0).val ∧ (x 0).val < 3136 * (L 1).val + 2960
    have := h.2
    omega

/-! ## A subcore's scoped buffers and semaphores -/

/-- The semaphore of the copy of the ids. -/
abbrev c0 : GSem nD τ sig := (thr d L, .dma cc0_scoped0.sem)
/-- The semaphore of the copy out, before the last subcore. -/
abbrev c1 : GSem nD τ sig := (thr d L, .dma cc0_scoped1.sem)
/-- The semaphore of the last subcore's copy out. -/
abbrev c2 : GSem nD τ sig := (thr d L, .dma cc0_scoped2.sem)

omit [FloatOps F] in
/-- The subcore's semaphores at zero: the three that the body waits on, and the rest. -/
theorem ownSems0_V : (ownSems0 (thr d L) : sProp 𝕄)
    = iprop(semVal (c0 d L) 0 ∗ semVal (c1 d L) 0 ∗ semVal (c2 d L) 0
        ∗ bigSep ((((ownCells (thr d L)).erase (c0 d L)).erase (c1 d L)).erase (c2 d L)) fun g => semVal g 0) := by
  unfold SparseCore.Cfg.ownSems0
  rw [SparseCore.bigSep_erase' ((mem_ownCells (g := c0 d L)).mpr ⟨rfl, by
      show (SemLoc.dma cc0_scoped0.sem : SemLoc sig).isScoped .scVector = true; decide⟩),
    SparseCore.bigSep_erase' (i := c1 d L) (Finset.mem_erase.mpr ⟨fun e => absurd (congrArg Prod.snd e)
      (show (SemLoc.dma cc0_scoped1.sem : SemLoc sig) ≠ SemLoc.dma cc0_scoped0.sem by decide), (mem_ownCells (g := c1 d L)).mpr ⟨rfl, by
      show (SemLoc.dma cc0_scoped1.sem : SemLoc sig).isScoped .scVector = true; decide⟩⟩),
    SparseCore.bigSep_erase' (i := c2 d L) (Finset.mem_erase.mpr ⟨fun e => absurd (congrArg Prod.snd e)
      (show (SemLoc.dma cc0_scoped2.sem : SemLoc sig) ≠ SemLoc.dma cc0_scoped1.sem by decide), Finset.mem_erase.mpr ⟨fun e => absurd (congrArg Prod.snd e)
      (show (SemLoc.dma cc0_scoped2.sem : SemLoc sig) ≠ SemLoc.dma cc0_scoped0.sem by decide), (mem_ownCells (g := c2 d L)).mpr ⟨rfl, by
      show (SemLoc.dma cc0_scoped2.sem : SemLoc sig).isScoped .scVector = true; decide⟩⟩⟩)]

/-- A buffer of the subcore as the device names it. -/
abbrev ref (b : Ref sig .scVector) : DevRef τ sig := (Proc.scVector (cV L) (jV L)).devRef b

/-- The buffers the kernel's body does not name. -/
abbrev bufsRest : Finset (DevRef τ sig) :=
  ((((ownRefs (Proc.scVector (cV L) (jV L))).erase (ref L cc0_scratch0)).erase (ref L cc0_scratch1)).erase (ref L cc0_scratch2)).erase (ref L cc0_scratch3)

/-- Distinct buffers of the subcore have distinct names on the device. -/
theorem ref_ne {a b : Ref sig .scVector} (h : a ≠ b) : ref L a ≠ ref L b := fun e => h (Proc.devRef_injective _ e)

omit [FloatOps F] in
/-- The subcore's buffers at any contents: the four that the body uses, and the rest. -/
theorem ownBufs_V : (ownBufs (thr d L) : sProp 𝕄)
    = iprop((∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f)
        ∗ bigSep (bufsRest L) fun b => iprop(∃ f, (d, b) ↦{fullShare} f)) := by
  unfold SparseCore.Cfg.ownBufs
  refine (SparseCore.bigSep_erase' (SparseCore.Cfg.mem_ownRefs_of_owner (p := Proc.scVector (cV L) (jV L)) (b := ref L cc0_scratch0) rfl)).trans ?_
  rw [SparseCore.bigSep_erase' (i := ref L cc0_scratch1) (Finset.mem_erase.mpr ⟨ref_ne L (by decide),
      SparseCore.Cfg.mem_ownRefs_of_owner (p := Proc.scVector (cV L) (jV L)) rfl⟩),
    SparseCore.bigSep_erase' (i := ref L cc0_scratch2) (Finset.mem_erase.mpr ⟨ref_ne L (by decide), Finset.mem_erase.mpr ⟨ref_ne L (by decide),
      SparseCore.Cfg.mem_ownRefs_of_owner (p := Proc.scVector (cV L) (jV L)) rfl⟩⟩),
    SparseCore.bigSep_erase' (i := ref L cc0_scratch3) (Finset.mem_erase.mpr ⟨ref_ne L (by decide), Finset.mem_erase.mpr ⟨ref_ne L (by decide), Finset.mem_erase.mpr ⟨ref_ne L (by decide),
      SparseCore.Cfg.mem_ownRefs_of_owner (p := Proc.scVector (cV L) (jV L)) rfl⟩⟩⟩)]

/-! ## The run -/

/-- What subcore `L` holds of the result after its run: its rows, filled. -/
def filled (ids : S50000.Idx → BitVec 32) (w : ℕ) (f : S50000.Idx → F .f32) : Prop :=
  Sorted ids → ∀ n : Fin 50000, n.val / 3136 = w → f (Shape.ofLane n) = cntG ids (key ids n.val)

/-- What subcore `L` starts from: a share `q` of the ids, and its rows of the result at any contents. -/
abbrev goT (q : PosShare TreeShare) (ids : S50000.Idx → BitVec 32) (f0 : S50000.Idx → F .f32) : sProp 𝕄 :=
  iprop((idsW.view.loc (thr d L) ↦{q} (ids : Buf (Elt F) (idsW.view.loc (thr d L)))) ∗ outW.view.loc (thr d L) ↦[rows (L 1).val]{fullShare} (f0 : Buf (Elt F) (outW.view.loc (thr d L))))

/-- What subcore `L` ends with: the share of the ids, and its rows of the result filled. -/
abbrev tdT (q : PosShare TreeShare) (ids : S50000.Idx → BitVec 32) : sProp 𝕄 :=
  iprop((idsW.view.loc (thr d L) ↦{q} (ids : Buf (Elt F) (idsW.view.loc (thr d L))))
    ∗ ∃ f : S50000.Idx → F .f32, (outW.view.loc (thr d L) ↦[rows (L 1).val]{fullShare} (f : Buf (Elt F) (outW.view.loc (thr d L)))) ∗ ⌜filled ids (L 1).val f⌝)

/-- A buffer of the subcore, owned at the contents `f`: its name's location is the location of the view the body holds. -/
theorem own_s0 (f : (cc0_scratch0 : Ref sig .scVector).ty.Contents (Elt F)) : ((thr d L).loc cc0_scratch0 ↦{fullShare} f : sProp 𝕄) = s0.view.loc (thr d L) ↦{fullShare} f := rfl
/-- The same of the table of lower bounds. -/
theorem own_s1 (f : (cc0_scratch1 : Ref sig .scVector).ty.Contents (Elt F)) : ((thr d L).loc cc0_scratch1 ↦{fullShare} f : sProp 𝕄) = s1.view.loc (thr d L) ↦{fullShare} f := rfl
/-- The same of the table of counts. -/
theorem own_s2 (f : (cc0_scratch2 : Ref sig .scVector).ty.Contents (Elt F)) : ((thr d L).loc cc0_scratch2 ↦{fullShare} f : sProp 𝕄) = s2.view.loc (thr d L) ↦{fullShare} f := rfl
/-- The same of the rows of the result. -/
theorem own_s3 (f : (cc0_scratch3 : Ref sig .scVector).ty.Contents (Elt F)) : ((thr d L).loc cc0_scratch3 ↦{fullShare} f : sProp 𝕄) = s3.view.loc (thr d L) ↦{fullShare} f := rfl

/-- The ids' copy lands whole in the subcore's own memory. -/
theorem landed (g0 ids p : S50000.Idx → BitVec 32) (hp : p = ids) :
    (s0.view.loc (thr d L) ↦{fullShare} View.write (Elt F) s0.view g0 p Finset.univ : sProp 𝕄) = idsPts (F := F) d L ids := by
  subst hp
  exact congrArg (fun f => (s0.view.loc (thr d L) ↦{fullShare} f : sProp 𝕄)) (View.write_whole_univ _ _ _)

/-- Sixteen ids loaded from the subcore's memory are each below 256. -/
theorem load16_lt (ids : S50000.Idx → BitVec 32) (hs : Small ids) (off : Fin 1 → ℕ) (inb : ∀ a, off a + S16.size a ≤ S50000.size a) (x : S16.Idx) :
    BitVec.toNat (w := 32) (s0.view.readAt (Elt F) (Rect.unit (s := S50000) off S16.size inb).toLoadRect ids x) < 256 := hs _

/-- The id a lane of a load reads. -/
theorem key_load (ids : S50000.Idx → BitVec 32) (off : Fin 1 → ℕ) (o : ℕ) (ho : off = ![o]) (inb : ∀ a, off a + S16.size a ≤ S50000.size a) (l : Fin 16) (n : ℕ)
    (hn : o + l.val = n) (h : n < 50000) :
    key ids n = BitVec.toNat (w := 32) (s0.view.readAt (Elt F) (Rect.unit (s := S50000) off S16.size inb).toLoadRect ids (lane l)) := by
  rw [read_load (F := F) (n := 50000) s0.view ids off o ho inb l ⟨n, h⟩ hn.symm]
  unfold key
  rw [dif_pos h]
  rfl

/-- Over sorted ids, the id of a row of the subcore lies between the least of its first sixteen and the greatest of its last. -/
theorem key_between (ids : S50000.Idx → BitVec 32) (hs : Small ids) (hsort : Sorted ids) (n : ℕ) (hn : 3136 * (L 1).val ≤ n)
    (hn' : n < 3136 * (L 1).val + (if (L 1).val < 15 then 3136 else 2960)) :
    (extractAt ![15] (k0_pay3 (s0.view.readAt (Elt F) (Rect.unit (s := S50000) (k0_off1 L) S16.size (k0_off1_inb L)).toLoadRect ids)) inpos_S16_p15).toNat ≤ key ids n
      ∧ key ids n ≤ (extractAt ![15] (k0_pay4 (s0.view.readAt (Elt F) (Rect.unit (s := S50000) (k0_off2 L) S16.size (k0_off2_inb L)).toLoadRect ids)) inpos_S16_p15).toNat := by
  have hw : (L 1).val < 16 := (L 1).isLt
  have hv4 := load16_lt (F := F) ids hs (k0_off1 L) (k0_off1_inb L)
  have hv14 := load16_lt (F := F) ids hs (k0_off2 L) (k0_off2_inb L)
  have a3 := (pay3_last _ fun l => lt_trans (hv4 (lane l)) (by decide)).2 0
  have a4 := (pay4_last _ fun l => lt_trans (hv14 (lane l)) (by decide)).2 15
  have hn5 : n < 50000 := by split at hn' <;> omega
  have k0 : key ids (3136 * (L 1).val) = _ := key_load (F := F) ids _ _ (k0_off1_eq L) (k0_off1_inb L) 0 _ (Nat.add_zero _) (by omega)
  have k1 : key ids (3136 * (L 1).val + (if (L 1).val < 15 then 3136 else 2960) - 16 + 15) = _ :=
    key_load (F := F) ids _ _ (k0_off2_eq L) (k0_off2_inb L) 15 _ rfl (by split <;> omega)
  refine ⟨le_trans a3 ?_, le_trans ?_ a4⟩
  · rw [← k0]; exact hsort _ _ hn hn5
  · rw [← k1]; exact hsort _ _ (by split at hn' <;> simp only [*, if_true, if_false] <;> omega) (by split <;> omega)

/-- The chunks of counts below reach one chunk past the last chunk of counts. -/
theorem t1_reach {v10 v20 : BitVec 32} (h1 : v10.toNat < 256) (h2 : v20.toNat < 256) :
    16 * (cHi v20 + 2) ≤ 16 * (cLo v10 + (k0_t1_loop v10 v20).trips) := by
  rw [t1_trips h1 h2]; omega

/-- The chunks of counts reach the chunk of the greatest id. -/
theorem t5_reach {v10 v20 : BitVec 32} (h1 : v10.toNat < 256) (h2 : v20.toNat < 256) :
    16 * (cHi v20 + 1) ≤ 16 * (cLo v10 + (k0_t5_loop v10 v20).trips) := by
  rw [t5_trips h1 h2]; omega

/-- The chunk of a word starts no later than the word. -/
theorem cLo_le (v : BitVec 32) : 16 * cLo v ≤ v.toNat := by unfold cLo; omega
/-- A bin up to `v` lies in the chunks up to the one that holds the bin after `v`. -/
theorem hi_lt {v : BitVec 32} {n : ℕ} (h : n ≤ v.toNat) : n < 16 * (cHi v + 1) := by unfold cHi; omega

/-- The subcore's rows of the result, as the copy out of its memory addresses them. -/
theorem own_outA (h1 : k0_cond1 L = 1#1) (f0 : S50000.Idx → F .f32) :
    (outW.view.loc (thr d L) ↦[rows (L 1).val]{fullShare} (f0 : Buf (Elt F) (outW.view.loc (thr d L))) : sProp 𝕄)
      = (outA L h1).view.loc (thr d L) ↦[(outA L h1).view.set]{fullShare} f0 :=
  congrArg (fun S : Finset S50000.Idx => (outW.view.loc (thr d L) ↦[S]{fullShare} (f0 : Buf (Elt F) (outW.view.loc (thr d L))) : sProp 𝕄)) (outA_set L h1).symm

/-- The last subcore's rows of the result, as its copy out addresses them. -/
theorem own_outB (h2 : k0_cond2 L = 1#1) (f0 : S50000.Idx → F .f32) :
    (outW.view.loc (thr d L) ↦[rows (L 1).val]{fullShare} (f0 : Buf (Elt F) (outW.view.loc (thr d L))) : sProp 𝕄)
      = (outB L h2).view.loc (thr d L) ↦[(outB L h2).view.set]{fullShare} f0 :=
  congrArg (fun S : Finset S50000.Idx => (outW.view.loc (thr d L) ↦[S]{fullShare} (f0 : Buf (Elt F) (outW.view.loc (thr d L))) : sProp 𝕄)) (outB_set L h2).symm

/-- What the copy out leaves in row `n` of the result. -/
theorem outA_val (h1 : k0_cond1 L = 1#1) (f0 : S50000.Idx → F .f32) (p : S3136.Idx → F .f32) (n : Fin 50000) (hn : n.val / 3136 = (L 1).val) :
    (outA L h1).view.writes (Elt F) f0 [⟨Rect.whole S3136, p⟩] (Shape.ofLane n)
      = p (Shape.ofLane (⟨n.val - 3136 * (L 1).val, by omega⟩ : Fin 3136)) := by
  rw [← View.write_univ_eq_writes_whole]
  have e : (Shape.ofLane n : S50000.Idx) = (outA L h1).view.emb (Shape.ofLane (⟨n.val - 3136 * (L 1).val, by omega⟩ : Fin 3136)) := by
    funext a
    obtain rfl : a = (0 : Fin 1) := Subsingleton.elim (α := Fin 1) _ _
    refine Fin.ext ?_
    show n.val = (k0_off17 L) 0 + 1 * (n.val - 3136 * (L 1).val)
    rw [k0_off17_eq]
    show n.val = 3136 * (L 1).val + 1 * (n.val - 3136 * (L 1).val)
    omega
  rw [e]
  exact View.write_emb_of_mem _ _ (Finset.mem_univ _)

/-- What the last subcore's copy out leaves in row `n` of the result. -/
theorem outB_val (h2 : k0_cond2 L = 1#1) (f0 : S50000.Idx → F .f32) (p : S2960.Idx → F .f32) (n : Fin 50000) (hn : n.val / 3136 = (L 1).val) :
    (outB L h2).view.writes (Elt F) f0 [⟨Rect.whole S2960, p⟩] (Shape.ofLane n)
      = p (Shape.ofLane (⟨n.val - 3136 * (L 1).val, by have := cond2_eq L h2; omega⟩ : Fin 2960)) := by
  have hw := cond2_eq L h2
  rw [← View.write_univ_eq_writes_whole]
  have e : (Shape.ofLane n : S50000.Idx) = (outB L h2).view.emb (Shape.ofLane (⟨n.val - 3136 * (L 1).val, by omega⟩ : Fin 2960)) := by
    funext a
    obtain rfl : a = (0 : Fin 1) := Subsingleton.elim (α := Fin 1) _ _
    refine Fin.ext ?_
    show n.val = (k0_off27 L) 0 + 1 * (n.val - 3136 * (L 1).val)
    rw [k0_off27_eq]
    show n.val = 3136 * (L 1).val + 1 * (n.val - 3136 * (L 1).val)
    omega
  rw [e]
  exact View.write_emb_of_mem _ _ (Finset.mem_univ _)

/-- What a subcore's run ends with, from the pieces the run leaves. -/
theorem finish (q : PosShare TreeShare) (ids : S50000.Idx → BitVec 32) (f : S50000.Idx → F .f32) (hf : filled ids (L 1).val f)
    (f1 : S288.Idx → BitVec 32) (h : S288.Idx → F .f32) (f3 : S3136.Idx → F .f32) (O : CellTallies nD τ sig (HIx 1)) (W W' : Waits sig (HIx 1))
    (hW : ∀ p ∈ W', p ∈ W ∨ p.2 = none) :
    iprop(((idsW.view.loc (thr d L) ↦{q} (ids : Buf (Elt F) (idsW.view.loc (thr d L))))
        ∗ (outW.view.loc (thr d L) ↦[rows (L 1).val]{fullShare} (f : Buf (Elt F) (outW.view.loc (thr d L)))))
      ∗ (idsPts (F := F) d L ids ∗ (s1.view.loc (thr d L) ↦{fullShare} (f1 : Buf (Elt F) (s1.view.loc (thr d L))))
        ∗ (s2.view.loc (thr d L) ↦{fullShare} (h : Buf (Elt F) (s2.view.loc (thr d L))))
        ∗ (s3.view.loc (thr d L) ↦{fullShare} (f3 : Buf (Elt F) (s3.view.loc (thr d L)))) ∗ bigSep (bufsRest L) fun b => iprop(∃ f, (d, b) ↦{fullShare} f))
      ∗ (semVal (c0 d L) 0 ∗ semVal (c1 d L) 0 ∗ semVal (c2 d L) 0
        ∗ bigSep ((((ownCells (thr d L)).erase (c0 d L)).erase (c1 d L)).erase (c2 d L)) fun g => semVal g 0)
      ∗ owes (thr d L) O W')
    ⊢ (iprop(tdT (F := F) d L q ids ∗ scopedBufs (thr d L) ∗ scopedSems0 (thr d L) ∗ ∃ W', ⌜∀ p ∈ W', p ∈ W ∨ p.2 = none⌝ ∗ owes (thr d L) O W') : sProp 𝕄) := by
  rw [(K (F := F)).scopedBufs_V facts d (cV L) (jV L), SparseCore.Cfg.scopedSems0_V (Val := Elt F) d (cV L) (jV L), ownSems0_V, ownBufs_V]
  unfold Loops.idsPts
  iintro ⟨⟨Hids, Hout⟩, ⟨H0, H1, H2, H3, Hbufs⟩, Hsems, HO⟩
  isplitl [Hids Hout]
  · isplitl [Hids]; · iexact Hids
    iexists f
    isplitl [Hout]; · iexact Hout
    ipureintro; exact hf
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hsems]; · iexact Hsems
  iexists W'
  isplitr
  · ipureintro; exact hW
  · iexact HO

/-- The run of subcore `L`. -/
theorem tile_body (q : PosShare TreeShare) (ids : S50000.Idx → BitVec 32) (hs : Small ids) (f0 : S50000.Idx → F .f32)
    (O : CellTallies nD τ sig (HIx 1)) (W : Waits sig (HIx 1)) (hO : ∀ g, O g none = 0) :
    iprop(levAts (K (F := F)).L (K (F := F)).lev
        ∗ goT d L q ids f0 ∗ scopedBufs (thr d L) ∗ scopedSems0 (thr d L) ∗ owes (thr d L) O W)
      ⊢ wp frame (wpE (defs₀ (F := F)) 𝒱₀ (thr d L) none) Set.univ
        (cc0__sc_counts_body L idsW (Memref.isWhole_whole _) outW (Memref.isWhole_whole _) s0 (Memref.isWhole_whole _) s1 (Memref.isWhole_whole _) s2 (Memref.isWhole_whole _) s3 (Memref.isWhole_whole _) cc0_scoped0 cc0_scoped1 cc0_scoped2)
        fun _ => iprop(tdT (F := F) d L q ids ∗ scopedBufs (thr d L) ∗ scopedSems0 (thr d L) ∗ ∃ W', ⌜∀ p ∈ W', p ∈ W ∨ p.2 = none⌝ ∗ owes (thr d L) O W') := by
  simp only [cc0__sc_counts_body_eq_skeleton]; unfold cc0__sc_counts_body_skel
  simp only [k0_part1_eq_skeleton]; unfold k0_part1_skel
  iintro ⟨#Hlv, ⟨Hids, Hout⟩, Hb, Hs, HO⟩
  ihave Hb := (Entails.of_eq (((K (F := F)).scopedBufs_V facts d (cV L) (jV L)).trans (ownBufs_V (F := F) d L))) $$ Hb
  ihave Hs := (Entails.of_eq ((SparseCore.Cfg.scopedSems0_V (Val := Elt F) d (cV L) (jV L)).trans (ownSems0_V (F := F) d L))) $$ Hs
  icases Hb with ⟨⟨%g0, H0⟩, ⟨%g1, H1⟩, ⟨%g2, H2⟩, ⟨%g3, H3⟩, Hbufs⟩
  icases Hs with ⟨Hc0, Hc1, Hc2, Hsems⟩
  ihave H0 := (Entails.of_eq (own_s0 (F := F) d L g0)) $$ H0
  ihave H1 := (Entails.of_eq (own_s1 (F := F) d L g1)) $$ H1
  ihave H2 := (Entails.of_eq (own_s2 (F := F) d L g2)) $$ H2
  ihave H3 := (Entails.of_eq (own_s3 (F := F) d L g3)) $$ H3
  ihave Hmw := ((K (F := F)).mayWaits_none (thr := thr d L) hO) $$ Hlv
  set_option sl_exec.maxSteps 2 in sl_exec (disch := exact View.amount_pos _ _ (show 0 < S50000.numel by decide))
  ihave H0 := (Entails.of_eq (landed (F := F) d L g0 ids (tile_body.sl.dma0 ids) rfl)) $$ H0
  have hv4 := load16_lt (F := F) ids hs (k0_off1 L) (k0_off1_inb L)
  have hv14 := load16_lt (F := F) ids hs (k0_off2 L) (k0_off2_inb L)
  have a3 := pay3_last _ fun l => lt_trans (hv4 (lane l)) (by decide)
  have a4 := pay4_last _ fun l => lt_trans (hv14 (lane l)) (by decide)
  have h10 := a3.1.elim fun l e => e ▸ hv4 (lane l)
  have h20 := a4.1.elim fun l e => e ▸ hv14 (lane l)
  have hchk := chk1 h10 h20
  have hin := key_between (F := F) L ids hs
  unfold Loops.idsPts
  sl_exec (disch := exact hchk)
  clear hv4 hv14 a3 a4
  rw [Prog.bind_assoc]
  sl_for (inv1 (F := F) d L ids (cLo (tile_body.sl.v10 (F := F) L ids))) $$ [H0 H1]
  case region => exact fun k acc => t1_trip d L ids hs _ _ _ h10 h20 hchk rfl k acc
  · unfold inv1 Loops.idsPts
    isplitl [H0]; · iexact H0
    iexists g1
    isplitl [H1]; · iexact H1
    ipureintro; exact fun _ p hp hp' => absurd hp (by omega)
  iintro %_ HI
  unfold inv1
  icases HI with ⟨H0, %f1, H1, %hf1⟩
  unfold tile_body.sl.prog.cont_1
  rw [Prog.bind_assoc]
  sl_for (fun _ _ => iprop(emp)) $$ []
  case region => exact fun k acc => absurd (lt_of_lt_of_eq k.isLt (t3_trips h20)) (Nat.not_lt_zero _)
  · iempintro
  iintro %_ -
  sl_exec
  sl_for (inv5 (F := F) d L ids f1 (cLo (tile_body.sl.v10 (F := F) L ids))) $$ [H1 H2]
  case region =>
    exact fun k acc => t5_trip d L ids f1 _ _ h10 h20 hchk (fun hsort p hp hp' => hf1 hsort p hp (lt_of_lt_of_le hp' (t1_reach h10 h20))) k acc
  · unfold inv5
    isplitl [H1]; · iexact H1
    iexists g2
    isplitl [H2]; · iexact H2
    ipureintro; exact fun _ p hp hp' => absurd hp (by omega)
  iintro %_ HI
  unfold inv5
  icases HI with ⟨H1, %h, H2, %hh⟩
  sl_for (fun _ _ => iprop(emp)) $$ []
  case region => exact fun k acc => absurd (lt_of_lt_of_eq k.isLt (t6_trips h20)) (Nat.not_lt_zero _)
  · iempintro
  iintro %_ -
  have hbin : Sorted ids → ∀ n, 3136 * (L 1).val ≤ n → n < 3136 * (L 1).val + (if (L 1).val < 15 then 3136 else 2960) →
      ∀ q : Fin 288, q.val = key ids n → h (Shape.ofLane q) = cntG ids q.val := fun hsort n hn hn' q hq => by
    have hk := hin hsort n hn hn'
    rw [← hq] at hk
    exact hh hsort q (le_trans (cLo_le _) hk.1) (lt_of_lt_of_le (hi_lt hk.2) (t5_reach h10 h20))
  rcases cond_or L with ⟨h1, hn2⟩ | ⟨hn1, h2⟩
  · have hw := cond1_lt L h1
    sl_exec
    sl_for (inv7 (F := F) d L ids h (3136 * (L 1).val)) $$ [H0 H2 H3]
    case region => exact fun k acc => t7_trip d L ids hs h h1 (fun hsort n hn hn' => hbin hsort n hn (by rw [if_pos hw]; exact hn')) k acc
    · unfold inv7
      isplitl [H0]; · iexact H0
      isplitl [H2]; · iexact H2
      iexists g3
      isplitl [H3]; · iexact H3
      ipureintro; exact fun _ p hp => absurd hp (by omega)
    iintro %_ HI
    unfold inv7
    icases HI with ⟨H0, H2, %f3, H3, %hf3⟩
    ihave Hout := (Entails.of_eq (own_outA (F := F) d L h1 f0)) $$ Hout
    sl_exec (disch := exact View.amount_pos _ _ (show 0 < S3136.numel by decide))
    sl_step
    ihave Hout := (Entails.of_eq (own_outA (F := F) d L h1 ((outA L h1).view.writes (Elt F) f0 [⟨Rect.whole S3136, tile_body.sl.dma0_1 f3⟩])).symm) $$ Hout
    iapply (finish (F := F) d L q ids ((outA L h1).view.writes (Elt F) f0 [⟨Rect.whole S3136, tile_body.sl.dma0_1 f3⟩]) ?hfill f1 h f3 O W (insert (SemLoc.dma ⟨1, by decide⟩, default) (insert (SemLoc.dma ⟨0, by decide⟩, default) W)) ?hW)
    case hfill =>
      intro hsort n hn
      rw [outA_val L h1 f0 _ n hn]
      refine (hf3 hsort _ ?_).trans ?_
      · exact lt_of_lt_of_eq (show n.val - 3136 * (L 1).val < 64 * 49 by omega) (congrArg (64 * ·) (by decide +kernel))
      · show cntG ids (key ids (3136 * (L 1).val + (n.val - 3136 * (L 1).val))) = _
        rw [show 3136 * (L 1).val + (n.val - 3136 * (L 1).val) = n.val by omega]
    case hW => exact fun p hp => (Finset.mem_insert.mp hp).elim (fun e => .inr (e ▸ rfl)) fun hp => (Finset.mem_insert.mp hp).elim (fun e => .inr (e ▸ rfl)) .inl
    isplitl [Hids Hout]
    · isplitl [Hids] <;> iassumption
    isplitl [H0 H1 H2 H3 Hbufs]
    · isplitl [H0]; · iexact H0
      isplitl [H1]; · iexact H1
      isplitl [H2]; · iexact H2
      isplitl [H3] <;> iassumption
    isplitl [Hc0 Hc1 Hc2 Hsems]
    · isplitl [Hc0]; · iexact Hc0
      isplitl [Hc1]; · iexact Hc1
      isplitl [Hc2] <;> iassumption
    iexact HO
  · have hw := cond2_eq L h2
    have c12 : k0_chk12 L (View.readAt (Elt F) (s0).view (Rect.unit (s := S50000) (k0_off26 L) S16.size (k0_off26_inb L h2)).toLoadRect ids) := fun _ => load_small ids hs _ _
    sl_exec
    sl_for (inv7 (F := F) d L ids h (3136 * (L 1).val)) $$ [H0 H2 H3]
    case region => exact fun k acc => t8_trip d L ids hs h h2 (fun hsort n hn hn' => hbin hsort n hn (by rw [if_neg (by omega)]; exact hn')) k acc
    · unfold inv7
      isplitl [H0]; · iexact H0
      isplitl [H2]; · iexact H2
      iexists g3
      isplitl [H3]; · iexact H3
      ipureintro; exact fun _ p hp => absurd hp (by omega)
    iintro %_ HI
    unfold inv7
    icases HI with ⟨H0, H2, %f3, H3, %hf3⟩
    ihave Hout := (Entails.of_eq (own_outB (F := F) d L h2 f0)) $$ Hout
    unfold Loops.idsPts
    sl_exec
    iapply (SparseCore.wp_vectorLoadIdx 𝒱₀ (thr d L) none Set.univ (base := s2) (S := Finset.univ) (q := fullShare) (Finset.subset_univ _)) $$ H2
    iintro H2
    sl_exec (disch := exact View.amount_pos _ _ (show 0 < S2960.numel by decide))
    sl_step
    ihave Hout := (Entails.of_eq (own_outB (F := F) d L h2 ((outB L h2).view.writes (Elt F) f0 [⟨Rect.whole S2960, tile_body.sl.dma2 d L ids h h2 c12 f3⟩])).symm) $$ Hout
    iapply (finish (F := F) d L q ids ((outB L h2).view.writes (Elt F) f0 [⟨Rect.whole S2960, tile_body.sl.dma2 d L ids h h2 c12 f3⟩]) ?hfill f1 h
      (s3.view.writes (Elt F) f3 (tile_body.sl.H3_1 d L ids h h2 c12)) O W (insert (SemLoc.dma ⟨2, by decide⟩, default) (insert (SemLoc.dma ⟨0, by decide⟩, default) W)) ?hW)
    case hfill =>
      intro hsort n hn
      rw [outB_val L h2 f0 _ n hn]
      have hlast := read_store (F := F) (n := 3136) s3.view f3 ![2944] 2944 rfl inb_S3136_S16_2944
        (loadIdx (s := S288) ((s2.access (.whole S288)).read (Elt F) h) ![s0.view.readAt (Elt F) (Rect.unit (s := S50000) (k0_off26 L) S16.size (k0_off26_inb L h2)).toLoadRect ids]
          (k0_idx11_inb L _ c12 h2)) [] ⟨n.val - 3136 * (L 1).val, by omega⟩
      refine (congrArg (s3.view.read (Elt F) (s3.view.writes (Elt F) f3 (tile_body.sl.H3_1 d L ids h h2 c12))) ?_).trans (hlast.trans ?_)
      · funext a
        obtain rfl : a = (0 : Fin 1) := Subsingleton.elim (α := Fin 1) _ _
        refine Fin.ext ?_
        show 0 + 1 * (n.val - 3136 * (L 1).val) = n.val - 3136 * (L 1).val
        omega
      split
      · rename_i hl
        exact gather_val ids h _ _ (k0_off26_eq L) _ _ _ n.val (by have : 2944 ≤ n.val - 3136 * (L 1).val := hl.1; show 3136 * (L 1).val + 2944 + (n.val - 3136 * (L 1).val - 2944) = n.val; omega)
          (hbin hsort n.val (by omega) (by rw [if_neg (by omega)]; omega))
      · rename_i hl
        refine (hf3 hsort ⟨n.val - 3136 * (L 1).val, by omega⟩ ?_).trans ?_
        · refine lt_of_lt_of_eq (show n.val - 3136 * (L 1).val < 64 * 46 from ?_) (congrArg (64 * ·) (by decide +kernel))
          have hl' : ¬ (2944 ≤ n.val - 3136 * (L 1).val ∧ n.val - 3136 * (L 1).val < 2944 + 16) := hl
          omega
        · show cntG ids (key ids (3136 * (L 1).val + (n.val - 3136 * (L 1).val))) = _
          rw [show 3136 * (L 1).val + (n.val - 3136 * (L 1).val) = n.val by omega]
    case hW => exact fun p hp => (Finset.mem_insert.mp hp).elim (fun e => .inr (e ▸ rfl)) fun hp => (Finset.mem_insert.mp hp).elim (fun e => .inr (e ▸ rfl)) .inl
    isplitl [Hids Hout]
    · isplitl [Hids] <;> iassumption
    isplitl [H0 H1 H2 H3 Hbufs]
    · isplitl [H0]; · iexact H0
      isplitl [H1]; · iexact H1
      isplitl [H2]; · iexact H2
      isplitl [H3]; · iexact H3
      iexact Hbufs
    isplitl [Hc0 Hc1 Hc2 Hsems]
    · isplitl [Hc0]; · iexact Hc0
      isplitl [Hc1]; · iexact Hc1
      isplitl [Hc2]; · iexact Hc2
      iexact Hsems
    iexact HO

end Cert.Proof.Tile
-- ==== Proof.Region.lean ====
/-
  The TensorCore part of the kernel: seven blocks of 8192 rows, the last cut at the arrays' end, each row of the
  features multiplied by one over the root of its count. `scaled` is what the result array ends holding.
-/
module

public import proofs.«01_k».proof.Proof.Tile
public import proofs.«01_k».proof.Proof.Gen.KernelIdeal.Points
public import proofs.«01_k».proof.Proof.Gen.KernelIdeal.Launch
public import Idealize.ShloMosaic.Lib.Pipeline.Value
public import Idealize.ShloMosaic.Lib.Tactic

@[expose] public section

noncomputable section

namespace Cert.Proof.Region

open Cert.KernelIdeal Cert.KernelIdeal.Gen
open Cert.Proof.Loops Cert.Proof.Tile
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose)

variable {F : FTy → Type} [FloatOps F]

local notation "𝕄" => MT nD τ sig (HIx 1) (Elt F) ℕ UU ℕ

/-! ## The values -/

/-- The features scaled row by row: row `n` times one over the root of the `n`-th count. -/
def scaled (g : S50000x256.Idx → F .f32) (cn : S50000.Idx → F .f32) : S50000x256.Idx → F .f32 := fun i =>
  FloatOps.mulf (g i) (FloatOps.divf (Scalar.ofBits .f32 0x3F800000#32) (FloatOps.sqrt (cn (Shape.ofLane (d := ![50000]) (i 0)))))

/-- What one block's body computes, element by element. -/
theorem pay_apply (v0 : Vec F S8192 .f32) (v6 : Vec F S8192x256 .f32) (i : S8192x256.Idx) :
    k1_pay1 v0 v6 i = FloatOps.mulf (v6 i) (FloatOps.divf (Scalar.ofBits .f32 0x3F800000#32) (FloatOps.sqrt (v0 (Shape.ofLane (d := ![8192]) (i 0))))) := by
  have h0 : (i 0).val < 8192 := (i 0).isLt
  let k : S8192x1.Idx := fun a => match a with | ⟨0, _⟩ => i 0 | ⟨1, _⟩ => (0 : Fin 1)
  unfold k1_pay1
  show FloatOps.mulf (v6 i) (broadcastTo S8192x256 _ broadcasts_S8192x1_S8192x256 i) = _
  rw [broadcastTo_apply (s := S8192x1) _ _ i k (fun a => by fin_cases a <;> rfl)]
  show FloatOps.mulf (v6 i) (FloatOps.divf _ (FloatOps.sqrt (shapeCast S8192x1 (shapeCast S8192 v0 shapeCasts_S8192_S8192) shapeCasts_S8192_S8192x1 k))) = _
  rw [shapeCast_self, shapeCast_apply (s := S8192) _ _ k (Shape.ofLane (d := ![8192]) (i 0)) ?_]
  · rfl
  · rw [Shape.rowMajor_val_one, Shape.rowMajor_val_two]
    show (i 0).val = (i 0).val * 1 + 0
    omega

/-! ## The body at a point -/

/-- The start of a two-axis block that is stored whole. -/
theorem zero2 : (![0, 0] : Fin 2 → Nat) = fun _ => 0 := funext fun a => by fin_cases a <;> rfl

/-- The kernel body on staging buffers `b0` of the features' window, `b1` of the counts' and `b2` of the result's: the
    result's buffer ends holding the payload of what the other two hold, those unchanged. -/
theorem sound_body (d : Dev nD) (E : Set ℕ) (i : grid1.Coords) (b0 b1 b2 : Fin 2)
    (X0 : S8192x256.Idx → Elt F .f32) (X1 : S8192.Idx → Elt F .f32) (X2 : S8192x256.Idx → Elt F .f32) (Q : PUnit → sProp 𝕄) :
    iprop((owns (d : Thread nD τ) (stage1_0 b0) fullShare X0 ∗ owns (d : Thread nD τ) (stage1_1 b1) fullShare X1
            ∗ owns (d : Thread nD τ) (stage1_2 b2) fullShare X2)
          ∗ (iprop(owns (d : Thread nD τ) (stage1_0 b0) fullShare X0 ∗ owns (d : Thread nD τ) (stage1_1 b1) fullShare X1
                  ∗ owns (d : Thread nD τ) (stage1_2 b2) fullShare (k1_pay1 X1 X0)) -∗ Q ⟨⟩))
      ⊢ wp frame (wpE (defs₀ (F := F)) 𝒱₀ (d : Thread nD τ) none) E
          (cc1__tc_scale_body i (stage1_0 b0) (hstage1_0 b0) (stage1_1 b1) (hstage1_1 b1) (stage1_2 b2) (hstage1_2 b2)) Q := by
  have hz : (![0] : Fin 1 → Nat) = fun _ => 0 := funext fun a => by fin_cases a; rfl
  fin_cases b0 <;> fin_cases b1 <;> fin_cases b2 <;>
  · simp only [owns_whole_eq, cc1__tc_scale_body_eq_skeleton]; unfold cc1__tc_scale_body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    isplitl [H0]
    · iexists f0; isplitr; · ipureintro; exact hf0
      iexact H0
    isplitl [H1]
    · iexists f1; isplitr; · ipureintro; exact hf1
      iexact H1
    · iexists _; isplitr; swap; · iexact H2
      ipureintro
      refine (Memref.write_access_unit_zero_univ (Elt F) _ zero2 _ _ _).trans ?_
      rw [← hf0, ← hf1]
      exact congrArg₂ k1_pay1 (Memref.readAt_unit_zero (Elt F) _ hz _ _) (Memref.readAt_unit_zero (Elt F) _ zero2 _ _)

/-! ## The proof data -/

section Data
variable (d : Dev nD) (g : S50000x256.Idx → F .f32) (cn : S50000.Idx → F .f32) (r : S50000x256.Idx → F .f32)
  (B : Set (SemLoc sig × HIx 1))

/-- The word no result depends on, in the staging rows past the arrays' end. -/
abbrev pad : F .f32 := Scalar.ofBits .f32 0#32

/-- The features' block at point `t`, on its rows inside the array. -/
def gblk (t : Fin cfg1.N) : (win1_0.xblock (grid1.coords t)).Idx → Elt F .f32 := (win1_0.blk t).view.read (Elt F) g
/-- The counts' block at point `t`, on its rows inside the array. -/
def cblk (t : Fin cfg1.N) : (win1_1.xblock (grid1.coords t)).Idx → Elt F .f32 := (win1_1.blk t).view.read (Elt F) cn
/-- The result's block at point `t`, on its rows inside the array. -/
def oblk (t : Fin cfg1.N) : (win1_2.xblock (grid1.coords t)).Idx → Elt F .f32 := (win1_2.blk t).view.read (Elt F) (scaled g cn)

/-- The pipeline's data: the arrays at the entry contents; after the body the staging buffers at their blocks, the
    result's at the scaled features; nothing owed, and nothing recorded past `B` but the pipeline's own waits. -/
def dats (_ : Fin 1) (d : Dev nD) : Dat τ (Elt F) (HIx 1) ℕ UU ℕ cfg1 d where
  A w := match w with
    | ⟨0, _⟩ => g
    | ⟨1, _⟩ => cn
    | ⟨2, _⟩ => r
  after w t := match w with
    | ⟨0, _⟩ => win1_0.fill (grid1.coords t) (fun _ => pad) (gblk g t)
    | ⟨1, _⟩ => win1_1.fill (grid1.coords t) (fun _ => pad) (cblk cn t)
    | ⟨2, _⟩ => win1_2.fill (grid1.coords t) (fun _ => pad) (oblk g cn t)
  Φ _ := iprop(emp)
  q _ := fullShare
  owed _ := 0
  recorded _ := B

/-- Before the body at a point, the features' staging buffer holds the fetched block, and what it held past the
    array's end. -/
theorem before_0 (t : Fin cfg1.N) (e) : (dats g cn r B 0 d).before (0 : Fin 3) t e = win1_0.fill (grid1.coords t) e (gblk g t) := by
  unfold Dat.before; rw [if_pos (fetch1_0 t)]; rfl

/-- The same of the counts' staging buffer. -/
theorem before_1 (t : Fin cfg1.N) (e) : (dats g cn r B 0 d).before (1 : Fin 3) t e = win1_1.fill (grid1.coords t) e (cblk cn t) := by
  unfold Dat.before; rw [if_pos (fetch1_1 t)]; rfl

/-- What the body computes from the two fetched blocks is, on the rows inside the array, the result's block. -/
theorem cut_pay (t : Fin cfg1.N) (e0 e1) :
    win1_2.cut (grid1.coords t) (k1_pay1 (win1_1.fill (grid1.coords t) e1 (cblk cn t)) (win1_0.fill (grid1.coords t) e0 (gblk g t)))
      = oblk g cn t := by
  funext j
  show k1_pay1 _ _ (win1_2.xinj (grid1.coords t) j) = _
  rw [pay_apply]
  have h0 : win1_0.fill (grid1.coords t) e0 (gblk g t) (win1_2.xinj (grid1.coords t) j) = gblk g t j :=
    win1_0.fill_xinj (grid1.coords t) e0 (gblk g t) j
  let j1 : (win1_1.xblock (grid1.coords t)).Idx := Shape.ofLane (d := win1_1.xsize (grid1.coords t)) (j 0)
  have h1 : win1_1.fill (grid1.coords t) e1 (cblk cn t) (Shape.ofLane (d := ![8192]) (win1_2.xinj (grid1.coords t) j 0)) = cblk cn t j1 := by
    rw [← win1_1.fill_xinj (grid1.coords t) e1 (cblk cn t) j1]
    congr 1
  have h2 : cblk cn t j1 = cn (Shape.ofLane (d := ![50000]) ((win1_2.rect t).emb j 0)) := by
    show cn ((win1_1.rect t).emb j1) = _
    refine congrArg cn (funext fun a => Fin.ext ?_)
    obtain rfl : a = 0 := Subsingleton.elim (α := Fin 1) _ _
    rfl
  rw [h0, h1, h2]
  rfl

/-- The library's body obligation: on the rows inside the arrays each staging buffer ends at its block. -/
theorem body_obligation (d : Dev nD) : BodyObligationLoose (dats g cn r B 0 d) (defs₀ (F := F)) 𝒱₀ none Set.univ := fun t => by
  rw [bigSep_W1, bigSep_W1]
  simp only
  rw [show (dats g cn r B 0 d).Φ t.succ = (dats g cn r B 0 d).Φ t.castSucc from rfl,
    show (dats g cn r B 0 d).owesAt none t.succ = (dats g cn r B 0 d).owesAt none t.castSucc from rfl]
  iintro ⟨HΦ, Ho, ⟨%e0, H0⟩, ⟨%e1, H1⟩, ⟨%e2, H2⟩⟩
  rw [before_0 d g cn r B t e0, before_1 d g cn r B t e1]
  iapply (sound_body (F := F) d Set.univ (grid1.coords t) (cfg1.slots t 0) (cfg1.slots t 1) (cfg1.slots t 2)
    (win1_0.fill (grid1.coords t) e0 (gblk g t)) (win1_1.fill (grid1.coords t) e1 (cblk cn t)) ((dats g cn r B 0 d).before (2 : Fin 3) t e2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hg : win1_0.cut (grid1.coords t) (win1_0.fill (grid1.coords t) (fun _ => pad (F := F)) (gblk g t)) = gblk g t := win1_0.cut_fill _ _ _
  have hc : win1_1.cut (grid1.coords t) (win1_1.fill (grid1.coords t) (fun _ => pad (F := F)) (cblk cn t)) = cblk cn t := win1_1.cut_fill _ _ _
  have ho : win1_2.cut (grid1.coords t) (win1_2.fill (grid1.coords t) (fun _ => pad (F := F)) (oblk g cn t)) = oblk g cn t := win1_2.cut_fill _ _ _
  isplitl [H0]
  · iexists e0
    change _ ⊢ owns (d : Thread nD τ) (stage1_0 (cfg1.slots t 0)) fullShare
      (win1_0.fill (grid1.coords t) e0 (win1_0.cut (grid1.coords t) (win1_0.fill (grid1.coords t) (fun _ => pad (F := F)) (gblk g t))))
    rw [hg]
  isplitl [H1]
  · iexists e1
    change _ ⊢ owns (d : Thread nD τ) (stage1_1 (cfg1.slots t 1)) fullShare
      (win1_1.fill (grid1.coords t) e1 (win1_1.cut (grid1.coords t) (win1_1.fill (grid1.coords t) (fun _ => pad (F := F)) (cblk cn t))))
    rw [hc]
  · iexists (k1_pay1 (win1_1.fill (grid1.coords t) e1 (cblk cn t)) (win1_0.fill (grid1.coords t) e0 (gblk g t)))
    change _ ⊢ owns (d : Thread nD τ) (stage1_2 (cfg1.slots t 2)) fullShare
      (win1_2.fill (grid1.coords t) (k1_pay1 (win1_1.fill (grid1.coords t) e1 (cblk cn t)) (win1_0.fill (grid1.coords t) e0 (gblk g t)))
        (win1_2.cut (grid1.coords t) (win1_2.fill (grid1.coords t) (fun _ => pad (F := F)) (oblk g cn t))))
    rw [ho, ← cut_pay g cn t e0 e1, Pipeline.Window.fill_cut]

/-! ## The result array at the end -/

/-- A row of the result lies in point `t`'s block when it is among the block's rows. -/
theorem mem_blk (t : Fin cfg1.N) (i : S50000x256.Idx) :
    i ∈ (win1_2.blk t).view.setOn Finset.univ ↔ (i 0).val / 8192 = t.val := by
  rw [View.setOn_univ]
  show i ∈ ((View.whole main_v1).slice (win1_2.rect t)).set ↔ _
  rw [View.set_slice_whole, Rect.mem_set_unit]
  have h0 : (i 0 : Nat) < 50000 := (i 0).isLt
  have h1 : (i 1 : Nat) < 256 := (i 1).isLt
  have e : win1_2.index t 0 * win1_2.size 0 = t.val * 8192 ∧ win1_2.xsize (grid1.coords t) 0 = min 8192 (50000 - t.val * 8192)
      ∧ win1_2.index t 1 * win1_2.size 1 = 0 ∧ win1_2.xsize (grid1.coords t) 1 = 256 := by
    rcases fin_N1 t with rfl | rfl | rfl | rfl | rfl | rfl | rfl <;> decide +kernel
  obtain ⟨ea, eb, ec, ed⟩ := e
  constructor
  · intro h
    have h := h 0
    change win1_2.index t 0 * win1_2.size 0 ≤ (i 0 : Nat) ∧ (i 0 : Nat) < win1_2.index t 0 * win1_2.size 0 + win1_2.xsize (grid1.coords t) 0 at h
    rw [ea, eb] at h
    omega
  · intro h a
    match a with
    | ⟨0, _⟩ =>
      change win1_2.index t 0 * win1_2.size 0 ≤ (i 0 : Nat) ∧ (i 0 : Nat) < win1_2.index t 0 * win1_2.size 0 + win1_2.xsize (grid1.coords t) 0
      rw [ea, eb]; omega
    | ⟨1, _⟩ =>
      change win1_2.index t 1 * win1_2.size 1 ≤ (i 1 : Nat) ∧ (i 1 : Nat) < win1_2.index t 1 * win1_2.size 1 + win1_2.xsize (grid1.coords t) 1
      rw [ec, ed]; omega

/-- After the first `n` write-backs the result's first `n` blocks hold the scaled features. -/
theorem arrAt_out (d : Dev nD) (n : ℕ) (hn : n ≤ cfg1.N) (i : S50000x256.Idx) (hi : (i 0).val / 8192 < n) :
    (dats g cn r B 0 d).arrAt (2 : Fin 3) n i = scaled g cn i := by
  induction n with
  | zero => omega
  | succ n ih =>
    let t : Fin cfg1.N := ⟨n, hn⟩
    rw [show n + 1 = t.val + 1 from rfl, (dats g cn r B 0 d).arrAt_succ (2 : Fin 3) t, if_pos (flush1_2 t)]
    have hw : win1_2.cut (grid1.coords t) ((dats g cn r B 0 d).after (2 : Fin 3) t) = (win1_2.blk t).view.read (Elt F) (scaled g cn) :=
      win1_2.cut_fill _ _ _
    change (win1_2.blk t).view.write (Elt F) ((dats g cn r B 0 d).arrAt (2 : Fin 3) t.val)
      (win1_2.cut (grid1.coords t) ((dats g cn r B 0 d).after (2 : Fin 3) t)) Finset.univ i = _
    rw [hw, View.write_read_eq_piecewise]
    unfold Finset.piecewise
    split
    · rfl
    · rename_i h
      rw [mem_blk] at h
      exact ih (by omega) (by change ¬ _ = n at h; omega)

/-- The features and the counts end as they were; the result ends holding the scaled features. -/
theorem arrAt_end (d : Dev nD) : (dats g cn r B 0 d).arrAt (0 : Fin 3) cfg1.N = g ∧ (dats g cn r B 0 d).arrAt (1 : Fin 3) cfg1.N = cn
    ∧ (dats g cn r B 0 d).arrAt (2 : Fin 3) cfg1.N = scaled g cn :=
  ⟨(dats g cn r B 0 d).arrAt_in (0 : Fin 3) rfl _, (dats g cn r B 0 d).arrAt_in (1 : Fin 3) rfl _,
    funext fun i => arrAt_out g cn r B d _ le_rfl i (by
      have h0 : (i 0 : Nat) < 50000 := (i 0).isLt
      rw [show cfg1.N = 7 from N_1]; omega)⟩

end Data

/-! ## The region -/

/-- The pipeline's rounds inside the proof's ghost state. -/
def EP : Emb UP (MT nD τ sig (HIx 1) (Elt F) ℕ UU ℕ) := (Emb.inl : Emb UP (UP × Counters)).trans embR

/-- Those rounds lie in the part of the ghost state that the program chooses. -/
instance EP_landsIn : (EP (F := F)).LandsIn (upEmb : UEmb _ (MT nD τ sig (HIx 1) (Elt F) ℕ UU ℕ)) := by
  unfold EP; infer_instance

/-- No table is prefetched. -/
abbrev adm : (p : Fin 1) → (pcfgs (F := F) p).Adm := fun p => (cfgs p).toPCfg_adm

/-- The kernel has no semaphore of its own. -/
theorem ownSemFacts : Pipeline.OwnSemFacts spec1 (fun k : PEmpty => k.elim) := Pipeline.OwnSemFacts.none _

/-- The three arrays at contents `g`, `cn`, `r`. -/
abbrev arrs (d : Dev nD) (g : S50000x256.Idx → F .f32) (cn : S50000.Idx → F .f32) (r : S50000x256.Idx → F .f32) : sProp 𝕄 :=
  iprop((((d : Thread nD τ).loc main_arg0) ↦{fullShare} (g : Buf (Elt F) ((d : Thread nD τ).loc main_arg0)))
    ∗ (((d : Thread nD τ).loc main_v0) ↦{fullShare} (cn : Buf (Elt F) ((d : Thread nD τ).loc main_v0)))
    ∗ (((d : Thread nD τ).loc main_v1) ↦{fullShare} (r : Buf (Elt F) ((d : Thread nD τ).loc main_v1))))

/-- Equal contents give the same ownership of the arrays. -/
theorem arrs_congr (d : Dev nD) {g g' : S50000x256.Idx → F .f32} {cn cn' : S50000.Idx → F .f32} {r r' : S50000x256.Idx → F .f32}
    (hg : g = g') (hc : cn = cn') (hr : r = r') : arrs d g cn r = arrs d g' cn' r' := by
  rw [hg, hc, hr]

section Seg
variable (g : S50000x256.Idx → F .f32) (cn : S50000.Idx → F .f32) (r : S50000x256.Idx → F .f32) (B : Set (SemLoc sig × HIx 1))

/-- The pipeline's arrays are the three arrays of the call. -/
theorem arrays_eq (d : Dev nD) (G : (w : Fin cfg1.W) → Buf (Elt F) ((cfg1.win w).arr.view.loc (d : Thread nD τ))) :
    (dats g cn r B 0 d).arrays G = arrs d (G (0 : Fin 3)) (G (1 : Fin 3)) (G (2 : Fin 3)) := by
  unfold Dat.arrays
  rw [bigSep_W1]
  have h (w : Fin 3) : (dats g cn r B 0 d).share w = fullShare := (dats g cn r B 0 d).share_full (fun _ => rfl) w
  rw [h, h, h]
  simp only [Memref.view_whole, View.set_whole]

set_option backward.isDefEq.respectTransparency.types false in
/-- The region: entered from the three arrays and nothing owed, left with the result scaled. -/
def reg : Pipeline.RegionSeg (pcfgs (F := F)) adm (dats g cn r B) none defs₀ 𝒱₀ (K (F := F)).L (K (F := F)).lev 0 where
  win := launch1.win.to₀
  block_pos := launch1.block_pos
  stage_whole := launch1.stage_whole
  K := PEmpty
  osem := fun k => k.elim
  ho := ownSemFacts
  hbody d := body_obligation g cn r B d
  hwaits := Pipeline.hwaits_of_owed_zero _ _ _ _ _ _ 0 fun _ _ => rfl
  pre d := iprop(arrs d g cn r ∗ Pipeline.owesWithin d 0 (B ∪ cfg1.waitPairs none))
  post d := iprop(arrs d g cn (scaled g cn) ∗ Pipeline.owesWithin d 0 (B ∪ cfg1.waitPairs none))
  X _ := iprop(emp)
  Y _ := iprop(emp)
  Z _ := iprop(emp)
  hentry d := by
    rw [arrays_eq]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin d := by
    rw [scopedRest1_eq]; iintro -; iempintro
  hout d := by
    rw [scopedRest1_eq, Pipeline.ownSems0_none]; iintro -
    isplitr; · iempintro
    isplitr <;> iempintro
  hexit d := by
    rw [arrays_eq]
    obtain ⟨e0, e1, e2⟩ := arrAt_end g cn r B d
    iintro ⟨Ha, HO, -, -⟩
    imodintro
    isplitl [Ha]
    · iapply (Entails.of_eq (arrs_congr d e0 e1 e2)) $$ Ha
    · iexact HO

end Seg

/-- The TensorCore call's run. -/
theorem region_wp (d : Dev nD) (g : S50000x256.Idx → F .f32) (cn : S50000.Idx → F .f32) (r : S50000x256.Idx → F .f32)
    (W : Waits sig (HIx 1)) (Q : PUnit → sProp 𝕄) :
    iprop((iprop(boundary (d : Thread nD τ) ∗ arrs d g cn (scaled g cn)
            ∗ ∃ W', ⌜∀ p ∈ W', p ∈ W ∨ p.2 = none⌝ ∗ owes (d : Thread nD τ) 0 W') -∗ Q ⟨⟩)
        ∗ boundary (d : Thread nD τ) ∗ arrs d g cn r ∗ owes (d : Thread nD τ) 0 W ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (d : Thread nD τ) none) Set.univ
          (.op (.customCall (Pipeline.entry 0) ()) fun _ => .ret ⟨⟩) Q := by
  have h := Pipeline.RegionSeg.wp (pcfgs (F := F)) adm (dats g cn r {p | p ∈ W ∨ p.2 = none}) none cellOf_inj EP defs₀ 𝒱₀
    (K (F := F)).L (K (F := F)).lev (reg g cn r {p | p ∈ W ∨ p.2 = none}) d none (fun u h => nomatch h) (fun _ => .ret ⟨⟩) Q
  rw [show (reg g cn r {p | p ∈ W ∨ p.2 = none}).pre d
      = iprop(arrs d g cn r ∗ Pipeline.owesWithin d 0 ({p | p ∈ W ∨ p.2 = none} ∪ cfg1.waitPairs none)) from rfl,
    show (reg g cn r {p | p ∈ W ∨ p.2 = none}).post d
      = iprop(arrs d g cn (scaled g cn) ∗ Pipeline.owesWithin d 0 ({p | p ∈ W ∨ p.2 = none} ∪ cfg1.waitPairs none)) from rfl] at h
  iintro ⟨Hk, Hb, Ha, HO, HL, Hg, Ht⟩
  iapply h
  isplitl [Hk]
  · iintro ⟨Hb, Ha, ⟨%W', %hW', HO⟩⟩
    rw [wp_ret]; imodintro
    iapply Hk
    isplitl [Hb]; · iexact Hb
    isplitl [Ha]; · iexact Ha
    iexists W'; isplitr
    · ipureintro
      intro p hp
      rcases hW' hp with h | ⟨w, s, rfl⟩
      · exact h
      · exact Or.inr rfl
    · iexact HO
  isplitl [Hb]; · iexact Hb
  isplitl [Ha HO]
  · isplitl [Ha]; · iexact Ha
    iexists W; isplitr
    · ipureintro; exact fun p hp => Or.inl (Or.inl hp)
    · iexact HO
  isplitl [HL]; · iexact HL
  isplitl [Hg] <;> iassumption

end Cert.Proof.Region
-- ==== Proof.Run.lean ====
/-
  The whole kernel's run, over any float values: the SparseCore call by sixteen subcores, each with a read share of the
  ids and its own rows of the counts, then the TensorCore call over the features and the counts. From ids below 256 the
  program terminates with nothing faulting, the arguments unchanged and every semaphore back at zero; if the ids are
  sorted too, the result is the features scaled by the counts of their ids.
-/
module

public import proofs.«01_k».proof.Proof.Region
public import Idealize.ShloMosaic.Lib.SparseCore.Quiescent

@[expose] public section

noncomputable section

namespace Cert.Proof.Run

open Cert.KernelIdeal Cert.KernelIdeal.Gen
open Cert.Proof.Words Cert.Proof.Loops Cert.Proof.Tile Cert.Proof.Region
open Idealize.ShloMosaic
open Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The handshakes' rounds inside the proof's ghost state. -/
abbrev EH : Emb UH (MT nD τ sig (HIx 1) (Elt F) ℕ UU ℕ) := embL

/-- The call runs on sixteen subcores. -/
theorem nSub_zero : (K (F := F)).nSub 0 = 16 := rfl

variable (m : (ℓ : Loc nD τ sig) → Buf (Elt F) ℓ) (ρ : Dev nD → PrngReg)

/-! ## The arrays of the call -/

/-- Where the features, the ids, the counts and the result lie. -/
abbrev gLoc (d : Dev nD) : Loc nD τ sig := (SparseCore.T d).loc main_arg0
@[inherit_doc gLoc] abbrev iLoc (d : Dev nD) : Loc nD τ sig := (SparseCore.T d).loc main_arg1
@[inherit_doc gLoc] abbrev nLoc (d : Dev nD) : Loc nD τ sig := (SparseCore.T d).loc main_v0
@[inherit_doc gLoc] abbrev oLoc (d : Dev nD) : Loc nD τ sig := (SparseCore.T d).loc main_v1

/-- Subcore `i`'s read share of the ids. -/
abbrev shr (i : Fin 16) : PosShare TreeShare := Transfers.dealOf fullShare Finset.univ i

/-- The ids, whole. -/
abbrev iPts (d : Dev nD) : sProp 𝕄 := iLoc d ↦{fullShare} m (iLoc d)
/-- The counts, whole, at contents `f`. -/
abbrev nPts (d : Dev nD) (f : Buf (Elt F) (nLoc d)) : sProp 𝕄 := nLoc d ↦{fullShare} f
/-- A subcore's share of the ids. -/
abbrev iShr (d : Dev nD) (i : Fin 16) : sProp 𝕄 := iLoc d ↦{shr i} m (iLoc d)
/-- A subcore's rows of the counts, at contents `f`. -/
abbrev nRow (d : Dev nD) (i : Fin 16) (f : Buf (Elt F) (nLoc d)) : sProp 𝕄 := nLoc d ↦[rows i.val]{fullShare} f

variable [FloatOps F]

/-- The counts are right: if the ids are sorted, entry `n` is the number of ids equal to the `n`-th id. -/
def Counted (ids : S50000.Idx → BitVec 32) (f : S50000.Idx → F .f32) : Prop :=
  Sorted ids → ∀ n : Fin 50000, f (Shape.ofLane n) = cntG ids (key ids n.val)

/-- What the call takes and gives, whole and per subcore: the ids, kept; the counts, filled. -/
def P : (K (F := F)).Pay (nD := nD) (Val := Elt F) (Name := ℕ) (U := UU) where
  st := fun q d _ => match q with | 0 => iprop(iPts m d ∗ nPts d (m (nLoc d)))
  dn := fun q d _ => match q with | 0 => iprop(iPts m d ∗ ∃ f, nPts d f ∗ ⌜Counted (m (iLoc d)) f⌝)
  go := fun q d _ i => match q with
    | 0 => iprop(iShr m d (Fin.cast nSub_zero i) ∗ nRow d (Fin.cast nSub_zero i) (m (nLoc d)))
  td := fun q d _ i => match q with
    | 0 => iprop(iShr m d (Fin.cast nSub_zero i) ∗ ∃ f, nRow d (Fin.cast nSub_zero i) f ∗ ⌜filled (m (iLoc d)) (Fin.cast nSub_zero i).val f⌝)
  x := fun _ _ => iprop(emp)

/-- What the handshakes pass can be stored. -/
instance P_storable : (P m).IsStorable where
  st q d _ := match q with
    | 0 => (inferInstance : BI.Storable (upEmb : UEmb _ 𝕄) iprop(iPts m d ∗ nPts d (m (nLoc d))))
  dn q d _ := match q with
    | 0 => (inferInstance : BI.Storable (upEmb : UEmb _ 𝕄) iprop(iPts m d ∗ ∃ f, nPts d f ∗ ⌜Counted (m (iLoc d)) f⌝))
  go q d _ i := match q with
    | 0 => (inferInstance : BI.Storable (upEmb : UEmb _ 𝕄)
        iprop(iShr m d (Fin.cast nSub_zero i) ∗ nRow d (Fin.cast nSub_zero i) (m (nLoc d))))
  td q d _ i := match q with
    | 0 => (inferInstance : BI.Storable (upEmb : UEmb _ 𝕄)
        iprop(iShr m d (Fin.cast nSub_zero i) ∗ ∃ f, nRow d (Fin.cast nSub_zero i) f ∗ ⌜filled (m (iLoc d)) (Fin.cast nSub_zero i).val f⌝))

/-! ## A subcore's task -/

/-- The grid point of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What the program runs on a subcore: the counting body at the subcore's grid point. -/
theorem defs₀_vector (c : Fin τ.nSC) (s : Fin τ.nSub) :
    defs₀ (F := F) (.scVector c s) 0 ()
      = SparseCore.onTile hcore0 hsub0 (fun c s => cc0__sc_counts_body (coordsV c s)
          idsW (Memref.isWhole_whole _) outW (Memref.isWhole_whole _) s0 (Memref.isWhole_whole _) s1 (Memref.isWhole_whole _)
          s2 (Memref.isWhole_whole _) s3 (Memref.isWhole_whole _) cc0_scoped0 cc0_scoped1 cc0_scoped2) ⟨⟩ c s := rfl

omit [FloatOps F] in
/-- The body's waits are at no index, so they are within what the launch allows. -/
theorem obl_post {thr : Thread nD τ} {A B C : sProp 𝕄} {O : CellTallies nD τ sig (HIx 1)} {W : Waits sig (HIx 1)}
    {R : SemLoc sig × HIx 1 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ R p⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's task, from its share of the ids and its rows of the counts, fills the rows. -/
theorem tileObl (hs : ∀ d, Loops.Small (m (iLoc d))) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  unfold P; dsimp only
  refine BI.Entails.trans ?_ ((tile_body d (coordsV ⟨_, hc.1⟩ ⟨_, hc.2⟩) (shr (Fin.cast nSub_zero i)) (m (iLoc d)) (hs d)
    (m (nLoc d)) O W hO).trans (wp_mono frame _ _ fun _ => obl_post))
  show (_ : sProp 𝕄) ⊢ _
  iintro ⟨HL, -, Hgo, Hrest⟩
  isplitl [HL]; · iexact HL
  isplitl [Hgo]; · iexact Hgo
  iexact Hrest

/-! ## The arrays dealt to the subcores and joined again -/

/-- Different subcores have different rows. -/
theorem rows_disjoint : ∀ i ∈ (Finset.univ : Finset (Fin 16)), ∀ j ∈ (Finset.univ : Finset (Fin 16)), i ≠ j →
    Disjoint (rows i.val) (rows j.val) := by
  intro i _ j _ hij
  refine Finset.disjoint_left.mpr fun x h1 h2 => hij (Fin.ext ?_)
  rw [← (Finset.mem_filter.mp h1).2, ← (Finset.mem_filter.mp h2).2]

/-- Every row is some subcore's. -/
theorem rows_cover : (Finset.univ : Finset (Fin 16)).biUnion (fun i => rows i.val) = Finset.univ := by
  ext x
  have hx : (x 0).val < 50000 := (x 0).isLt
  simp only [Finset.mem_biUnion, Finset.mem_univ, true_and, iff_true]
  exact ⟨⟨(x 0).val / 3136, by omega⟩, Finset.mem_filter.mpr ⟨Finset.mem_univ _, rfl⟩⟩

omit [FloatOps F] in
/-- The counts whole are the subcores' rows. -/
theorem nPts_rows (d : Dev nD) (f : Buf (Elt F) (nLoc d)) :
    (nLoc d ↦{fullShare} f : sProp 𝕄) = bigSep Finset.univ fun i : Fin 16 => nLoc d ↦[rows i.val]{fullShare} f := by
  rw [← pointsTo_biUnion Finset.univ (ℓ := nLoc d) (fun i : Fin 16 => rows i.val) rows_disjoint, rows_cover]; try rfl

omit [FloatOps F] in
/-- The ids whole are the subcores' read shares. -/
theorem iPts_shares (d : Dev nD) : iPts m d = bigSep Finset.univ fun i : Fin 16 => iShr m d i :=
  Transfers.pointsTo_deal Finset.univ ⟨0, Finset.mem_univ _⟩ fullShare

omit [FloatOps F] in
/-- A conjunction over the call's subcores is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The subcores' filled rows are the counts whole, right everywhere. -/
theorem nRows_join (d : Dev nD) (ids : S50000.Idx → BitVec 32) :
    (bigSep Finset.univ fun i : Fin 16 => iprop(∃ f, nRow d i f ∗ ⌜filled ids i.val f⌝))
      ⊢ (iprop(∃ f, nPts d f ∗ ⌜Counted ids f⌝) : sProp 𝕄) := by
  refine (bigSep_exists_pi Finset.univ (fun (i : Fin 16) (f : Buf (Elt F) (nLoc d)) => iprop(nRow d i f ∗ ⌜filled ids i.val f⌝))).trans ?_
  iintro ⟨%fs, H⟩
  ihave H := (show (bigSep Finset.univ fun i : Fin 16 => iprop(nRow d i (fs i) ∗ ⌜filled ids i.val (fs i)⌝))
      ⊢ (bigSep Finset.univ fun i : Fin 16 => iprop(⌜filled ids i.val (fs i)⌝ ∗ nRow d i (fs i)) : sProp 𝕄) from
    bigSep_mono fun i _ => by
      show (_ : sProp 𝕄) ⊢ _
      iintro ⟨H, %h⟩
      isplitr
      · ipureintro; exact h
      · iexact H) $$ H
  ihave H := (bigSep_pure_sep Finset.univ (fun i : Fin 16 => filled ids i.val (fs i)) (fun i : Fin 16 => nRow d i (fs i))) $$ H
  icases H with ⟨%hfill, H⟩
  ihave H' := (pointsTo_biUnion_join Finset.univ (fun i : Fin 16 => rows i.val) fs (fs 0) rows_disjoint) $$ H
  icases H' with ⟨%g, %hg, Hg⟩
  rw [rows_cover]
  iexists g
  isplitl [Hg]; · iexact Hg
  ipureintro
  intro hsort n
  have hn := n.isLt
  let i : Fin 16 := ⟨n.val / 3136, by omega⟩
  exact (hg i (Finset.mem_univ _) (Shape.ofLane n) (Finset.mem_filter.mpr ⟨Finset.mem_univ _, rfl⟩)).trans
    (hfill i (Finset.mem_univ _) hsort n rfl)

/-- What the call takes is dealt to the subcores; what they give back is what the call gives. -/
theorem vecSplit : (K (F := F)).VecSplit' (P m) 0 := by
  intro d c
  show iprop(iPts m d ∗ nPts d (m (nLoc d))) ⊢ |={Set.univ}=> iprop(
      (bigSep Finset.univ fun i : Fin ((K (F := F)).nSub 0) =>
        iprop(iShr m d (Fin.cast nSub_zero i) ∗ nRow d (Fin.cast nSub_zero i) (m (nLoc d))))
      ∗ ((bigSep Finset.univ fun i : Fin ((K (F := F)).nSub 0) =>
          iprop(iShr m d (Fin.cast nSub_zero i) ∗ ∃ f, nRow d (Fin.cast nSub_zero i) f ∗ ⌜filled (m (iLoc d)) (Fin.cast nSub_zero i).val f⌝))
          -∗ iprop(iPts m d ∗ ∃ f, nPts d f ∗ ⌜Counted (m (iLoc d)) f⌝)))
  rw [bigSep_tasks (F := F) (fun i => iprop(iShr m d i ∗ nRow d i (m (nLoc d)))),
    bigSep_tasks (F := F) (fun i => iprop(iShr m d i ∗ ∃ f, nRow d i f ∗ ⌜filled (m (iLoc d)) i.val f⌝)), bigSep_sep', bigSep_sep',
    ← iPts_shares, show nPts d (m (nLoc d)) = _ from nPts_rows d _]
  iintro H; imodintro
  isplitl [H]; · iexact H
  iintro ⟨Hi, Ho⟩
  isplitl [Hi]; · iexact Hi
  iapply (nRows_join d (m (iLoc d))); iexact Ho

/-! ## The launch's ghost state -/

/-- The handshakes' rounds and the pipeline's staging cells and tokens. -/
def u₀ : UU := (initOf (K (F := F)).hsCells (K (F := F)).hsToks,
  (initOf (Pipeline.cells (nD := nD) (τ := τ) (Pipeline.pin (pcfgs (F := F)) adm) cellOf_inj)
    (Pipeline.launchToks (nD := nD) (τ := τ) (Pipeline.pin (pcfgs (F := F)) adm) cellOf_inj), 1))

/-- A device's ghost state for the TensorCore call. -/
def G (d : Dev nD) : sProp 𝕄 :=
  iprop(Pipeline.cellsGhost (Pipeline.pin (pcfgs (F := F)) adm) (EP (F := F)) 0 d
    ∗ Pipeline.toksInit (Pipeline.pin (pcfgs (F := F)) adm) (EP (F := F)) 0 d)

omit [FloatOps F] in
/-- Nothing, once for each of a set, is nothing. -/
theorem bigSep_emp' {I : Type} (s : Finset I) : (bigSep s fun _ => iprop(emp)) = (iprop(emp) : sProp 𝕄) := bigSep_emp_const s

/-- The launch element is the handshakes' and every device's. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  ihave HP := (show (BI.own (((Emb.inl : Emb UP (UP × Counters)).trans embR) _) : sProp 𝕄) ⊢ BI.own (EP (F := F) _) from .rfl) $$ HP
  imod (Pipeline.fund_ghost (Pipeline.pin (pcfgs (F := F)) adm) (EP (F := F)) cellOf_inj) $$ HP with ⟨Hg, Ht⟩
  imodintro
  isplitl [HH]; · iexact HH
  isplitl [Hg Ht]
  · unfold G
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program on the TensorCore -/

omit [FloatOps F] in
/-- The TensorCore's arrays, one by one. -/
theorem unscopedBufs_eq (d : Dev nD) (W : (b : Ref sig .tc) → Buf (Elt F) ((d.tc : Thread nD τ).loc b)) :
    (unscopedBufs d W : sProp 𝕄) = iprop((gLoc d ↦{fullShare} W main_arg0) ∗ (iLoc d ↦{fullShare} W main_arg1)
      ∗ (nLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- What the call takes, over its one core. -/
theorem st0_eq (d : Dev nD) : (bigSep Finset.univ fun c : Fin ((K (F := F)).nCore 0) => (P m).st 0 d c) = iprop(iPts m d ∗ nPts d (m (nLoc d))) :=
  bigSep_univ_of_subsingleton (0 : Fin 1)
/-- What the call gives, over its one core. -/
theorem dn0_eq (d : Dev nD) : (bigSep Finset.univ fun c : Fin ((K (F := F)).nCore 0) => (P m).dn 0 d c)
    = iprop(iPts m d ∗ ∃ f, nPts d f ∗ ⌜Counted (m (iLoc d)) f⌝) :=
  bigSep_univ_of_subsingleton (0 : Fin 1)

/-- What the program ends with: the arguments, unchanged, and the result, the features scaled by right counts. -/
abbrev FIN (d : Dev nD) : sProp 𝕄 :=
  iprop((gLoc d ↦{fullShare} m (gLoc d)) ∗ iPts m d
    ∗ ∃ f : S50000.Idx → F .f32, (oLoc d ↦{fullShare} (scaled (m (gLoc d)) f : Buf (Elt F) (oLoc d))) ∗ ⌜Counted (m (iLoc d)) f⌝)

/-- After the last call the TensorCore owes nothing, and it may have waited at no index besides. -/
theorem tcSt_one (d : Dev nD) : ((K (F := F)).tcSt EH d 1 : sProp 𝕄)
    ⊢ iprop(∃ W, owes (SparseCore.T d) 0 W ∗ ((∃ W', ⌜∀ p ∈ W', p ∈ W ∨ p.2 = none⌝ ∗ owes (SparseCore.T d) 0 W') -∗ (K (F := F)).tcSt EH d 1)) := by
  unfold SparseCore.Cfg.tcSt
  rw [(K (F := F)).Otc_end d (le_refl 1)]
  iintro ⟨⟨%W, %hW, HO⟩, Hrest⟩
  iexists W
  isplitl [HO]; · iexact HO
  iintro ⟨%W', %hW', HO⟩
  isplitl [HO]
  · iexists W'; isplitr
    · ipureintro
      intro p hp
      rcases hW' p hp with h | h
      · exact hW p h
      · rw [show p = (p.1, none) from Prod.ext rfl h]
        exact Nat.zero_le _
    · iexact HO
  · iexact Hrest

/-- The TensorCore call as a program of its own. -/
abbrev callP : Prog (TpuEff nD τ sig (Elt F) (ΛP (F := F)) .tc) PUnit.{1} := .op (.customCall (Pipeline.entry 0) ()) fun _ => .ret ⟨⟩

/-- The call in the whole program is that program lifted. -/
theorem call_lift : SparseCore.liftProg (Q := 1) (callP (F := F)) = Prog.lift (.customCall (SparseCore.inner (Pipeline.entry 0)) ()) := rfl

/-- What the call does alone it does in the whole program. -/
theorem call_wp (d : Dev nD) (Q : PUnit.{1} → sProp 𝕄) :
    wp frame (wpE (D (F := F)) 𝒱 (SparseCore.T d) none) Set.univ (callP (F := F)) Q
      ⊢ wp frame (wpE ((K (F := F)).defs (D (F := F))) 𝒱 (SparseCore.T d) none) Set.univ
          (SparseCore.liftProg (Q := 1) (callP (F := F))) Q :=
  (K (F := F)).wp_liftProg (D (F := F)) 𝒱 (SparseCore.T d) (Set.univ : Set ℕ) none (callP (F := F)) Q

/-- The program on a device's TensorCore: the SparseCore call, then the TensorCore call. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hg, Hi, Hn, Ho⟩, Hts, -⟩, HG⟩
  iapply ((K (F := F)).wp_run (D (F := F)) 𝒱 (EH := EH) (P := P m) κ d 0) $$ [Hst Hg Hi Hn Ho Hb Hts HG]
  isplitr; · iexact Hctx
  isplitl [Hst]; · iexact Hst
  isplitl [Hi Hn]
  · rw [st0_eq]
    isplitl [Hi]; · iexact Hi
    iexact Hn
  iintro ⟨Hst, Hdn⟩
  ihave Hdn' := (Entails.of_eq (dn0_eq m d)) $$ Hdn
  icases Hdn' with ⟨Hi, %f, Hn, %hf⟩
  ihave Hst := (show ((K (F := F)).tcSt EH d ((0 : Fin 1).val + 1) : sProp 𝕄) ⊢ _ from tcSt_one d) $$ Hst
  icases Hst with ⟨%W, HO, Hst⟩
  ihave HL := (SparseCore.Cfg.ctx_levAts κ) $$ Hctx
  rw [← call_lift]
  iapply (call_wp d _)
  iapply (region_wp d (m (gLoc d)) f (m (oLoc d)) W _)
  isplitl [Hst Hi Hts]
  · iintro ⟨Hb, ⟨Hg, -, Ho⟩, %W', %hW', HO⟩
    imodintro
    isplitl [Hst HO]
    · iapply Hst; iexists W'; isplitr
      · ipureintro; exact hW'
      · iexact HO
    isplitr [Hb Hts]
    · isplitl [Hg]; · iexact Hg
      isplitl [Hi]; · iexact Hi
      iexists f
      isplitl [Ho]; · iexact Ho
      ipureintro; exact hf
    isplitl [Hb] <;> iassumption
  isplitl [Hb]; · iexact Hb
  isplitl [Hg Hn Ho]
  · isplitl [Hg]; · iexact Hg
    isplitl [Hn] <;> iassumption
  isplitl [HO]; · iexact HO
  isplitl [HL]; · iexact HL
  unfold G
  icases HG with ⟨H1, H2⟩
  isplitl [H1] <;> iassumption

/-! ## The run -/

/-- A device's memory at the end: the arguments unchanged, the result the features scaled by right counts. -/
def fq (d : Dev nD) (s' : Phys nD τ sig (Elt F)) : Prop :=
  s'.mem.mem (gLoc d) = m (gLoc d) ∧ s'.mem.mem (iLoc d) = m (iLoc d)
    ∧ ∃ f : S50000.Idx → F .f32, s'.mem.mem (oLoc d) = (scaled (m (gLoc d)) f : Buf (Elt F) (oLoc d)) ∧ Counted (m (iLoc d)) f

/-- The final memory holds what the program ends with. -/
theorem hfin (d : Dev nD) (s' : Phys nD τ sig (Elt F)) : iprop(FIN m d ∗ SI s') ⊢ (⌜fq m d s'⌝ : sProp 𝕄) := by
  iintro ⟨⟨Hg, Hi, %f, Ho, %hf⟩, HSI⟩
  ihave H := (persistent_entails_right (SI_pointsTo_agree (st := s') (ℓ := gLoc d) (I := Finset.univ) (q := fullShare) (f := m (gLoc d)))) $$ [HSI Hg]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := scaled (m (gLoc d)) f)) $$ [HSI Ho]
  · isplitl [HSI] <;> iassumption
  icases H with %h3
  ipureintro
  exact ⟨funext fun i => h1 i (Finset.mem_univ i), funext fun i => h2 i (Finset.mem_univ i),
    f, funext fun i => h3 i (Finset.mem_univ i), hf⟩

/-- How the program ends: every device's memory as in `fq`, every semaphore at zero. -/
def QC : PUnit × MemSt nD τ sig (Elt F) → Prop := fun r =>
  (∀ d : Dev nD, r.2.mem (gLoc d) = m (gLoc d) ∧ r.2.mem (iLoc d) = m (iLoc d)
    ∧ ∃ f : S50000.Idx → F .f32, r.2.mem (oLoc d) = (scaled (m (gLoc d)) f : Buf (Elt F) (oLoc d)) ∧ Counted (m (iLoc d)) f)
  ∧ r.2.sem = fun _ => 0

/-- From ids below 256 every run of the program ends as in `QC`. -/
theorem run_main [∀ e, Nonempty (Elt F e)] (hs : ∀ d, Loops.Small (m (iLoc d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hs)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Run

end
-- ==== Proof.Same.lean ====
/-
  The kernel and its idealization are one text printed twice, under two names. This file says so of the table of bodies
  that a run uses, so that the run proved over the second text (Proof/Run.lean) is the first one's too.
-/
module

public import proofs.«01_k».proof.Defs
public import proofs.«01_k».proof.Proof.Gen.Kernel
public import proofs.«01_k».proof.Proof.Gen.KernelIdeal

@[expose] public section

noncomputable section

namespace Cert.Proof.Same

open Idealize.ShloMosaic Cert

/-- The body that each subcore runs is the same in the two texts. -/
theorem body_eq : @Kernel.cc0__sc_counts_body Bits _ Kernel.Gen.facts = @KernelIdeal.cc0__sc_counts_body Bits _ KernelIdeal.Gen.facts := by
  funext i a2 h2 a3 h3 a4 h4 a5 h5 a6 h6 a7 h7 q1 q2 q3
  delta Kernel.cc0__sc_counts_body KernelIdeal.cc0__sc_counts_body
  rfl

/-- So is each of the two kernels' bodies, on whichever processor it is called. -/
theorem defs₀_eq : @Kernel.defs₀ Bits _ Kernel.Gen.facts = @KernelIdeal.defs₀ Bits _ KernelIdeal.Gen.facts := by
  funext c l a
  match c, l, a with
  | .tc, 1, (_, _) => rfl
  | .tc, 0, _ => rfl
  | .scScalar _, 0, _ => rfl
  | .scScalar _, 1, _ => rfl
  | .scVector _ _, 1, _ => rfl
  | .scVector _ _, 0, _ =>
    delta Kernel.defs₀ KernelIdeal.defs₀
    rw [body_eq]
    rfl

/-- So is the whole table, with the calls' own set-up and hand-over around the bodies. -/
theorem defs_eq : @Kernel.defs Bits _ Kernel.Gen.facts = @KernelIdeal.defs Bits _ KernelIdeal.Gen.facts :=
  congrArg (fun D => KernelIdeal.sc.defs (Pipeline.defs KernelIdeal.pcfgs D)) defs₀_eq

end Cert.Proof.Same

end
-- ==== Proof.Value.lean ====
/-
  The mathematics of the certificate, with no program in it: what the two preconditions say of the ids, and that the
  reference's composed term, over extended reals, is the kernel's result. The reference counts the ids by a scatter of
  ones, takes the root of the 256 counts, looks each id's root up, and divides; the kernel multiplies by one over the
  root of the same count. The count of an id that occurs is not zero, so the two agree at every feature, finite or not.
-/
module

public import proofs.«01_k».proof.Proof.Region
public import proofs.«01_k».proof.Proof.Gen.ReferenceIdeal
public import proofs.«01_k».proof.Proof.Gen.Pre_in_range
public import proofs.«01_k».proof.Proof.Gen.Pre_in_range_sorted
public import Idealize.ShloMosaic.Lib.ReduceAll
public import Idealize.ShloMosaic.Lib.IdealHost
public import Idealize.ShloMosaic.Lib.Routing.OpsPair
public import Idealize.ShloMosaic.Lib.Routing.OpsSet

@[expose] public section

noncomputable section

namespace Cert.Proof.Value

open Cert.Proof.Loops Cert.Proof.Region
open Idealize.ShloMosaic Idealize.ShloMosaic.ValueIdx Idealize.ShloMosaic.Routing

/-- The ids' shape: a vector of fifty thousand. -/
abbrev SN : Shape := ⟨1, ![50000]⟩

/-! ## The preconditions -/

/-- A word that compares at least 0 and below 256, both signed, is a number below 256. -/
theorem word_range (v : BitVec 32) (h0 : IntOp.cmpi .sge v 0#32 = 1#1) (h1 : IntOp.cmpi .slt v 256#32 = 1#1) : v.toNat < 256 := by
  simp only [IntOp.cmpi, BitVec.sle_eq_decide, BitVec.slt_eq_decide, BitVec.toInt_eq_toNat_cond, BitVec.toNat_ofNat] at h0 h1
  have ofB : ∀ b : Bool, BitVec.ofBool b = 1#1 → b = true := by decide
  have h0 := of_decide_eq_true (ofB _ h0)
  have h1 := of_decide_eq_true (ofB _ h1)
  have := v.isLt
  omega

/-- Two numbers below 256 as words: if the first compares at most the second, signed, it is. -/
theorem word_le (v w : BitVec 32) (hv : v.toNat < 256) (hw : w.toNat < 256) (h : IntOp.cmpi .sle v w = 1#1) : v.toNat ≤ w.toNat := by
  simp only [IntOp.cmpi, BitVec.sle_eq_decide, BitVec.toInt_eq_toNat_cond] at h
  have ofB : ∀ b : Bool, BitVec.ofBool b = 1#1 → b = true := by decide
  have h := of_decide_eq_true (ofB _ h)
  omega

/-- A value with no axes has one index. -/
instance : Subsingleton (Shape.Idx ⟨0, ![]⟩) := ⟨fun a b => funext fun x => x.elim0⟩

/-- If the reduction by `and` of the two range comparisons is 1, every id is below 256. -/
theorem small_of_all (ids : IVec SN 32) (hb : (⟨0, ![]⟩ : Shape).BroadcastsInDim SN ![]) (hr : SN.ReducesTo [0] ⟨0, ![]⟩)
    (hu : 0 < (⟨0, ![]⟩ : Shape).numel)
    (h : Host.reduce IntOp.andi (andi (cmpi .sge ids (broadcastInDim SN ![] hb (constantI ⟨0, ![]⟩ 32 0#32)))
      (cmpi .slt ids (broadcastInDim SN ![] hb (constantI ⟨0, ![]⟩ 32 256#32)))) (constantI ⟨0, ![]⟩ 1 1#1) hr hu ix0 = 1#1) :
    Loops.Small ids := fun x => by
  have e := IntOp.andi_eq_one.1 (Host.reduce_andi_all _ _ hr hu _ h x)
  exact word_range _ e.1 e.2

/-- The first precondition: every id is below 256. -/
theorem small_of_pre {F : FTy → Type} [FloatOps F] (g : FVec F ⟨2, ![50000, 256]⟩ .f32) (ids : IVec SN 32)
    (h : Cert.Pre_in_range.fn g ids = fun _ => 1#1) : Loops.Small ids := by
  unfold Cert.Pre_in_range.fn at h
  exact small_of_all ids _ _ _ (congrFun h ix0)

/-- An id at a position is what the `key` there is. -/
theorem key_eq (ids : IVec SN 32) (n : Fin 50000) : key ids n.val = (ids (ix1 n)).toNat := by
  unfold key
  rw [dif_pos n.isLt]
  refine congrArg (fun x => (ids x).toNat) (funext fun a => ?_)
  match a with
  | ⟨0, _⟩ => rfl

/-- A sequence whose neighbours do not decrease below `N` does not decrease below `N`. -/
theorem le_of_steps (N : ℕ) (f : ℕ → ℕ) (h : ∀ n, n + 1 < N → f n ≤ f (n + 1)) (a b : ℕ) (hab : a ≤ b) (hb : b < N) : f a ≤ f b := by
  induction b, hab using Nat.le_induction with
  | base => exact le_rfl
  | succ n _ ih => exact (ih (by omega)).trans (h n hb)

/-- The second precondition: every id is below 256, and the ids do not decrease. -/
theorem sorted_of_pre {F : FTy → Type} [FloatOps F] (g : FVec F ⟨2, ![50000, 256]⟩ .f32) (ids : IVec SN 32)
    (h : Cert.Pre_in_range_sorted.fn g ids = fun _ => 1#1) : Loops.Small ids ∧ Sorted ids := by
  unfold Cert.Pre_in_range_sorted.fn at h
  have e := IntOp.andi_eq_one.1 (congrFun h ix0)
  have hs : Loops.Small ids := small_of_all ids _ _ _ e.1
  refine ⟨hs, fun a b hab hb => le_of_steps 50000 (key ids) (fun n hn => ?_) a b hab hb⟩
  have e2 := Host.reduce_andi_all _ _ _ _ _ e.2 (ix1 (⟨n, by omega⟩ : Fin 49999))
  rw [key_eq ids ⟨n, by omega⟩, key_eq ids ⟨n + 1, hn⟩]
  refine word_le _ _ (hs _) (hs _) ?_
  refine Eq.trans ?_ e2
  have i0 : extractStridedSlice (⟨1, ![49999]⟩ : Shape) ![0] ids Cert.Pre_in_range_sorted.Facts.slices_S50000_S49999_0 (ix1 (⟨n, by omega⟩ : Fin 49999))
      = ids (ix1 ⟨n, by omega⟩) := by
    refine congrArg ids (funext fun a => Fin.ext ?_)
    match a with
    | ⟨0, _⟩ => exact Nat.zero_add n
  have i1 : extractStridedSlice (⟨1, ![49999]⟩ : Shape) ![1] ids Cert.Pre_in_range_sorted.Facts.slices_S50000_S49999_1 (ix1 (⟨n, by omega⟩ : Fin 49999))
      = ids (ix1 ⟨n + 1, hn⟩) := by
    refine congrArg ids (funext fun a => Fin.ext ?_)
    match a with
    | ⟨0, _⟩ => exact Nat.add_comm 1 n
  exact (congrArg₂ (IntOp.cmpi .sle) i0 i1).symm

/-! ## Counting by a scatter of ones -/

/-- Update `i` of a scatter of scalars by one index word each lands at `e` exactly when its word, read signed, is `e`. -/
theorem lands {N n : ℕ} (d : ScatterDims (shape1 N) (shape2 n 1) (shape1 n)) (hiw : d.insertedWindowDims = [0])
    (hsd : d.scatterDimsToOperandDims = [0]) (hivd : d.indexVectorDim = 1) (idx : IVec (shape2 n 1) 32) (i : Fin n) (e : Fin N) :
    d.resultIdx? (ix1 i) idx = some (ix1 e) ↔ (idx (ix2 i (0 : Fin 1))).toInt = (e.val : ℤ) := by
  have hm : (0 : Fin 1) ∈ d.scatterDimsToOperandDims := by rw [hsd]; exact List.mem_singleton.2 rfl
  have hw : d.window (ix1 i) 0 = 0 := by
    unfold ScatterDims.window
    rw [dif_neg fun h => (of_decide_eq_true (List.mem_filter.1 h).2) (by rw [hiw]; exact List.mem_singleton.2 rfl)]
  have hpos : d.siIdx (ix1 i) ⟨d.scatterDimsToOperandDims.idxOf 0, List.idxOf_lt_length_iff.2 hm⟩ = ix2 i (0 : Fin 1) := by
    funext b
    match b with
    | ⟨0, _⟩ =>
      refine Fin.ext ?_
      unfold ScatterDims.siIdx
      rw [dif_neg (by rw [hivd]; exact Nat.zero_ne_one)]
      show (ix1 i _).val = i.val
      exact congrArg (fun a => (ix1 i a).val) (Subsingleton.elim (α := Fin 1) _ 0)
    | ⟨1, _⟩ => exact Subsingleton.elim (α := Fin 1) _ _
  have hst : d.start (ix1 i) idx 0 = (idx (ix2 i (0 : Fin 1))).toInt := by
    unfold ScatterDims.start
    rw [dif_pos hm, hpos]
  rw [resultIdx?_ix1, hst, hw, Nat.cast_zero, add_zero]

/-- Among the first `N` numbers, those with a property, counted as `Fin`s or as numbers. -/
theorem card_fin (N : ℕ) (p : ℕ → Prop) [DecidablePred p] :
    (Finset.univ.filter fun i : Fin N => p i.val).card = ((Finset.range N).filter p).card :=
  Finset.card_bij (fun i _ => i.val)
    (fun i hi => Finset.mem_filter.2 ⟨Finset.mem_range.2 i.isLt, (Finset.mem_filter.1 hi).2⟩)
    (fun _ _ _ _ h => Fin.ext h)
    (fun n hn => ⟨⟨n, Finset.mem_range.1 (Finset.mem_filter.1 hn).1⟩, Finset.mem_filter.2 ⟨Finset.mem_univ _, (Finset.mem_filter.1 hn).2⟩, rfl⟩)

/-- A scatter of ones onto zeros counts: entry `e` is the number of positions whose word is `e`. -/
theorem scatter_ones {N n : ℕ} (d : ScatterDims (shape1 N) (shape2 n 1) (shape1 n)) (hiw : d.insertedWindowDims = [0])
    (hsd : d.scatterDimsToOperandDims = [0]) (hivd : d.indexVectorDim = 1) (x : FVec Ideal (shape1 N) .f32) (hx : ∀ i, x i = (0 : EReal))
    (upd : FVec Ideal (shape1 n) .f32) (hupd : ∀ i, upd i = (1 : EReal)) (idx : IVec (shape2 n 1) 32) (k : ℕ → ℕ)
    (hk : ∀ i : Fin n, (idx (ix2 i (0 : Fin 1))).toInt = (k i.val : ℤ)) (e : Fin N) :
    Host.scatterAdd d x idx upd (ix1 e) = ((((Finset.range n).filter fun a => k a = e.val).card : ℝ) : EReal) := by
  show Ideal.hostScatterAdd d x idx upd (ix1 e) = _
  unfold Ideal.hostScatterAdd
  rw [hx, zero_add, Finset.sum_congr rfl fun j _ => hupd j, Finset.sum_const, nsmul_one, ← card_fin]
  have hc : (Finset.univ.filter fun j => d.resultIdx? j idx = some (ix1 e)).card
      = (Finset.univ.filter fun i : Fin n => k i.val = e.val).card := by
    refine Finset.card_bij (fun j _ => j 0) (fun j hj => ?_) (fun a _ b _ h => ?_) fun i hi => ⟨ix1 i, ?_, rfl⟩
    · obtain ⟨i, rfl⟩ : ∃ i : Fin n, j = ix1 i := ⟨j 0, eq_ix1 j⟩
      have h := (lands d hiw hsd hivd idx i e).1 (Finset.mem_filter.1 hj).2
      rw [hk] at h
      exact Finset.mem_filter.2 ⟨Finset.mem_univ _, Nat.cast_injective h⟩
    · exact (eq_ix1 a).trans ((congrArg ix1 h).trans (eq_ix1 b).symm)
    · refine Finset.mem_filter.2 ⟨Finset.mem_univ _, (lands d hiw hsd hivd idx i e).2 ?_⟩
      rw [hk, (Finset.mem_filter.1 hi).2]
  rw [hc]
  exact (EReal.coe_natCast).symm

/-! ## The reference's term -/

open Cert.ReferenceIdeal Cert.ReferenceIdeal.Gen in
/-- The ids as the reference looks them up: one that is negative counts from the end. -/
abbrev wrapped (ids : IVec SN 32) : IVec S50000x1 32 :=
  broadcastInDim S50000x1 ![0] bcast_S50000_S50000x1_0 (select (cmpi .slt ids (broadcastInDim S50000 ![] bcast_S_S50000 (constantI S_ 32 0#32)))
    (addi ids (broadcastInDim S50000 ![] bcast_S_S50000 (constantI S_ 32 256#32))) ids)

open Cert.ReferenceIdeal Cert.ReferenceIdeal.Gen in
/-- The roots of the 256 counts, as the reference computes them. -/
abbrev roots (ids : IVec SN 32) : FVec Ideal S256 .f32 :=
  Host.sqrt (Host.scatterAdd scatter_S256_S50000x1_S50000_n_0_0_1 (broadcastInDim S256 ![] bcast_S_S256 (constant S_ .f32 0x00000000#32))
    (broadcastInDim S50000x1 ![0] bcast_S50000_S50000x1_0 ids) (broadcastInDim S50000 ![] bcast_S_S50000 (constant S_ .f32 0x3F800000#32)))

open Cert.ReferenceIdeal Cert.ReferenceIdeal.Gen in
/-- Each id's root, or the fill value where the id is out of range. -/
abbrev looked (ids : IVec SN 32) : FVec Ideal S50000 .f32 :=
  select (Host.reduce IntOp.andi (andi (cmpi .sge (wrapped ids) (broadcastInDim S50000x1 ![] bcast_S_S50000x1 (constantI S_ 32 0#32)))
      (cmpi .sle (wrapped ids) (broadcastInDim S50000x1 ![0, 1] bcast_S1x1_S50000x1_0_1 (broadcastInDim S1x1 ![1] bcast_S1_S1x1_1 (constantI S1 32 255#32)))))
      (constantI S_ 1 1#1) reducesTo_S50000x1_S50000_d1 h_S_)
    (Host.gather gather_S256_S50000x1_S50000_n_0_n_n_0_1_1 (roots ids) (wrapped ids))
    (broadcastInDim S50000 ![] bcast_S_S50000 (constant S_ .f32 0x7FC00000#32))

open Cert.ReferenceIdeal Cert.ReferenceIdeal.Gen in
/-- The reference's result: every feature over its row's root. -/
abbrev divided (g : FVec Ideal S50000x256 .f32) (ids : IVec SN 32) : FVec Ideal S50000x256 .f32 :=
  Host.divf g (broadcastInDim S50000x256 ![0, 1] bcast_S50000x1_S50000x256_0_1 (broadcastInDim S50000x1 ![0] bcast_S50000_S50000x1_0 (looked ids)))

/-- A vector broadcast to a column reads the vector. -/
theorem column {α : Type} {n : ℕ} (hn : n ≠ 1) (h : (shape1 n).BroadcastsInDim (shape2 n 1) ![0]) (x : (shape1 n).Idx → α) (i : Fin n) (j : Fin 1) :
    broadcastInDim (shape2 n 1) ![0] h x (ix2 i j) = x (ix1 i) :=
  Idealize.ShloMosaic.broadcastInDim_apply _ h x _ _ fun a => by
    match a with
    | ⟨0, _⟩ => exact (if_neg hn).symm

/-- A column broadcast along its rows reads the column. -/
theorem columns {α : Type} {n w : ℕ} (hn : n ≠ 1) (h : (shape2 n 1).BroadcastsInDim (shape2 n w) ![0, 1]) (x : (shape2 n 1).Idx → α) (i : Fin n) (j : Fin w) :
    broadcastInDim (shape2 n w) ![0, 1] h x (ix2 i j) = x (ix2 i (0 : Fin 1)) :=
  Idealize.ShloMosaic.broadcastInDim_apply _ h x _ _ fun a => by
    match a with
    | ⟨0, _⟩ => exact (if_neg hn).symm
    | ⟨1, _⟩ => exact (if_pos rfl).symm

/-- A word below 256 is not negative, is at most 255, and is what it reads signed. -/
theorem word_small (v : BitVec 32) (h : v.toNat < 256) :
    IntOp.cmpi .slt v 0#32 = 0#1 ∧ IntOp.cmpi .sge v 0#32 = 1#1 ∧ IntOp.cmpi .sle v 255#32 = 1#1 ∧ v.toInt = (v.toNat : ℤ) := by
  have ofT : ∀ b : Bool, b = true → BitVec.ofBool b = 1#1 := by decide
  have ofF : ∀ b : Bool, b = false → BitVec.ofBool b = 0#1 := by decide
  have hi : v.toInt = (v.toNat : ℤ) := by rw [BitVec.toInt_eq_toNat_cond]; omega
  refine ⟨ofF _ ?_, ofT _ ?_, ofT _ ?_, hi⟩
  · show v.slt 0#32 = false
    rw [BitVec.slt_eq_decide, hi, decide_eq_false_iff_not]; simp
  · show (0#32).sle v = true
    rw [BitVec.sle_eq_decide, hi, decide_eq_true_eq]; simp
  · show v.sle 255#32 = true
    rw [BitVec.sle_eq_decide, hi, decide_eq_true_eq]
    have : (255#32 : BitVec 32).toInt = 255 := by decide
    omega

/-- An id in range is looked up as itself. -/
theorem wrapped_apply (ids : IVec SN 32) (hs : Loops.Small ids) (n : Fin 50000) (j : Fin 1) : wrapped ids (ix2 n j) = ids (ix1 n) := by
  unfold wrapped
  refine (column (by norm_num) _ _ n j).trans ?_
  show (if IntOp.cmpi .slt (ids (ix1 n)) 0#32 = 1#1 then _ else ids (ix1 n)) = _
  rw [(word_small _ (hs (ix1 n))).1]
  exact if_neg (by decide)

/-- The host's root at an index is the root of the element. -/
theorem sqrt_at {s : Shape} (x : FVec Ideal s .f32) (i : s.Idx) : Host.sqrt x i = Ideal.sqrt (x i) := rfl

/-- A `select` at an index where the mask is 1 is the first operand there. -/
theorem select_at {s : Shape} {α : Type} (c : IVec s 1) (x y : s.Idx → α) (i : s.Idx) (h : c i = 1#1) : select c x y i = x i := if_pos h

/-- The root of an entry is the root of the number of ids that equal it. -/
theorem roots_apply (ids : IVec SN 32) (hs : Loops.Small ids) (e : Fin 256) : roots ids (ix1 e) = Ideal.sqrt (cntG (F := Ideal) ids e.val) := by
  unfold roots
  rw [sqrt_at]
  refine congrArg Ideal.sqrt ?_
  refine (scatter_ones _ rfl rfl rfl _ (fun _ => Ideal.ofBits_zero_f32) _ (fun _ => Ideal.ofBits_one_f32) _ (key ids) (fun i => ?_) e).trans ?_
  · rw [key_eq, ← (word_small _ (hs (ix1 i))).2.2.2]
    exact congrArg BitVec.toInt (column (by norm_num) _ _ i 0)
  · show _ = (((BitVec.ofNat 32 _).toInt : ℝ) : EReal)
    have hc : ((Finset.range 50000).filter fun a => key ids a = e.val).card ≤ 50000 :=
      (Finset.card_filter_le _ _).trans (Finset.card_range _).le
    rw [StableHlo.Predicate.toInt_ofNat_small _ (hc.trans_lt (by norm_num)), Int.cast_natCast]

/-- Row `n` is divided by the root of the number of ids that equal the `n`-th. -/
theorem looked_apply (ids : IVec SN 32) (hs : Loops.Small ids) (n : Fin 50000) : looked ids (ix1 n) = Ideal.sqrt (cntG (F := Ideal) ids (key ids n.val)) := by
  have hv := hs (ix1 n)
  unfold looked
  rw [select_at]
  · refine (gather_take1 _ rfl rfl rfl rfl _ _ n (⟨(ids (ix1 n)).toNat, hv⟩ : Fin 256) ?_ (by norm_num)).trans ?_
    · rw [wrapped_apply ids hs]
      simp
    · rw [roots_apply ids hs, key_eq]
  · refine Host.reduce_andi_one _ _ _ _ _ rfl fun i => ?_
    obtain ⟨a, b, rfl⟩ : ∃ (a : Fin 50000) (b : Fin 1), i = ix2 a b := ⟨i 0, i 1, eq_ix2 i⟩
    have hw := word_small _ (hs (ix1 a))
    have e := wrapped_apply ids hs a b
    refine IntOp.andi_eq_one.2 ⟨?_, ?_⟩
    · show IntOp.cmpi .sge (wrapped ids (ix2 a b)) 0#32 = 1#1
      rw [e]; exact hw.2.1
    · show IntOp.cmpi .sle (wrapped ids (ix2 a b)) 255#32 = 1#1
      rw [e]; exact hw.2.2.1

/-- The number of ids that equal the `n`-th is positive, and so is its root. -/
theorem root_ne_zero (ids : IVec SN 32) (n : Fin 50000) : Ideal.sqrt (cntG (F := Ideal) ids (key ids n.val)) ≠ 0 := by
  have hc : ((Finset.range 50000).filter fun a => key ids a = key ids n.val).card ≤ 50000 :=
    (Finset.card_filter_le _ _).trans (Finset.card_range _).le
  have hp : 0 < ((Finset.range 50000).filter fun a => key ids a = key ids n.val).card :=
    Finset.card_pos.2 ⟨n.val, Finset.mem_filter.2 ⟨Finset.mem_range.2 n.isLt, rfl⟩⟩
  have e : cntG (F := Ideal) ids (key ids n.val) = ((((Finset.range 50000).filter fun a => key ids a = key ids n.val).card : ℝ) : EReal) := by
    show (((BitVec.ofNat 32 _).toInt : ℝ) : EReal) = _
    rw [StableHlo.Predicate.toInt_ofNat_small _ (hc.trans_lt (by norm_num)), Int.cast_natCast]
  generalize ((Finset.range 50000).filter fun a => key ids a = key ids n.val).card = c at hc hp e
  have hr : (0 : ℝ) < c := Nat.cast_pos.2 hp
  rw [e]
  show (if (c : ℝ) < 0 then (⊥ : EReal) else (Real.sqrt c : EReal)) ≠ 0
  rw [if_neg hr.le.not_gt]
  exact fun h => (Real.sqrt_pos.2 hr).ne' (EReal.coe_eq_zero.1 h)

/-- The value equation. With every id in range, and counts that hold at each row the number of ids equal to that row's,
    the reference's result is the features scaled by the counts. -/
theorem divided_eq (g : FVec Ideal ⟨2, ![50000, 256]⟩ .f32) (ids : IVec SN 32) (hs : Loops.Small ids) (f : FVec Ideal SN .f32)
    (hf : ∀ n : Fin 50000, f (Shape.ofLane (d := ![50000]) n) = cntG (F := Ideal) ids (key ids n.val)) : divided g ids = scaled (F := Ideal) g f := by
  funext i
  obtain ⟨n, w, rfl⟩ : ∃ (n : Fin 50000) (w : Fin 256), i = ix2 n w := ⟨i 0, i 1, eq_ix2 i⟩
  unfold divided
  rw [hostDivf_apply, columns (by norm_num), column (by norm_num), looked_apply ids hs]
  show _ = g (ix2 n w) * Ideal.div (Ideal.ofBits .f32 0x3F800000#32) (Ideal.sqrt (f (Shape.ofLane (d := ![50000]) n)))
  rw [hf, Ideal.ofBits_one_f32]
  exact (Ideal.mul_one_div (root_ne_zero ids n)).symm

end Cert.Proof.Value

end
-- ==== Proof.lean ====
/-
  The certificate: the kernel runs from ids below 256 and leaves its arguments as they were and every semaphore at zero,
  at machine floats and over extended reals; the reference does the same from any ids; and from ids below 256 that are
  sorted the two end, over extended reals, with equal results. The kernel's run is Proof/Run.lean's, stated once for any float values
  and read here at each; the reference's is its list of host operations composed (Proof/Gen/ReferenceIdeal/Run.lean);
  that the two results are one is Proof/Value.lean's equation.
-/
module

public import proofs.«01_k».proof.Defs
public import proofs.«01_k».proof.Proof.Gen.Kernel
public import proofs.«01_k».proof.Proof.Gen.ReferenceIdeal.Run
public import proofs.«01_k».proof.Proof.Run
public import proofs.«01_k».proof.Proof.Same
public import proofs.«01_k».proof.Proof.Value
public import Idealize.ShloMosaic.Lib.Quiescent

@[expose] public section

noncomputable section

namespace Cert.Proof

open Idealize.ShloMosaic Idealize.ShloMosaic.TcCoe Idealize.SL.Sem

/-- The kernel at machine floats, from ids in range: it ends, nothing faults, arguments and counters are as at the start. -/
theorem frame_kernel : Cert.quiescent_Kernel := fun m ρ hp => by
  rw [Same.defs_eq]
  exact (θ_run (Cert.KernelIdeal.defs (F := Bits)) _ _).mono (fun _ h => ⟨fun c => ⟨(h.1 c).1, (h.1 c).2.1⟩, h.2⟩)
    (Run.run_main (F := Bits) m ρ fun d => Value.small_of_pre _ _ (hp d))

/-- The kernel over extended reals, from ids in range: likewise. -/
theorem frame_ideal : Cert.quiescent_KernelIdeal := fun m ρ hp =>
  (θ_run (Cert.KernelIdeal.defs (F := Ideal)) _ _).mono (fun _ h => ⟨fun c => ⟨(h.1 c).1, (h.1 c).2.1⟩, h.2⟩)
    (Run.run_main (F := Ideal) m ρ fun d => Value.small_of_pre _ _ (hp d))

/-- The kernel over extended reals, from ids in range and sorted: likewise. -/
theorem frame_ideal_sorted : Cert.quiescent_KernelIdeal_pre_in_range_sorted := fun m ρ hp =>
  (θ_run (Cert.KernelIdeal.defs (F := Ideal)) _ _).mono (fun _ h => ⟨fun c => ⟨(h.1 c).1, (h.1 c).2.1⟩, h.2⟩)
    (Run.run_main (F := Ideal) m ρ fun d => (Value.sorted_of_pre _ _ (hp d)).1)

/-- The reference over extended reals, from any arguments: it ends, its arguments as they were; it has no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- So it does from ids in range and sorted. -/
theorem frame_reference_sorted : Cert.quiescent_ReferenceIdeal_pre_in_range_sorted := fun m ρ _ => frame_reference m ρ trivial

/-- Kernel and reference over extended reals, from the same features and the same ids, in range and sorted: both end with
    the features divided by the root of the number of ids equal to their row's. -/
theorem equal : Cert.algebraic_KernelIdeal_ReferenceIdeal_pre_in_range_sorted := fun m g m' g' hp ha => by
  have hs := fun d => Value.sorted_of_pre _ _ (hp d)
  refine ⟨fun c => Value.divided (m (Run.gLoc c)) (m (Run.iLoc c)), ?_, ?_⟩
  · refine (θ_run (Cert.KernelIdeal.defs (F := Ideal)) _ _).mono (fun r h c => ?_) (Run.run_main (F := Ideal) m g fun d => (hs d).1)
    obtain ⟨h0, h1, f, hf, hc⟩ := h.1 c
    exact ⟨hf.trans (Value.divided_eq _ _ (hs c).1 f (hc (hs c).2)).symm, h0, h1⟩
  · refine (θ_run (Cert.ReferenceIdeal.defs (F := Ideal)) _ _).mono (fun r h c => ?_) (Cert.ReferenceIdeal.Value.run (F := Ideal) m' g')
    refine ⟨(h c).1.trans ?_, (h c).2⟩
    rw [(ha c).1, (ha c).2]

/-- Everything that the certificate claims. -/
theorem claim : Cert.Claim :=
  ⟨Cert.Kernel.Gen.facts, Cert.KernelIdeal.Gen.facts, Cert.ReferenceIdeal.Gen.facts, Cert.Pre_in_range.Gen.facts,
    Cert.Pre_in_range_sorted.Gen.facts, frame_kernel, frame_ideal, frame_ideal_sorted, frame_reference, frame_reference_sorted, trivial, equal⟩

end Cert.Proof

end
